-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2)
      ∧ r.2.mem ((c.tc : Thread Cert.UnclippedIdeal.nD Cert.UnclippedIdeal.τ).loc Cert.UnclippedIdeal.main_arg3) = m ((c.tc : Thread Cert.UnclippedIdeal.nD Cert.UnclippedIdeal.τ).loc Cert.UnclippedIdeal.main_arg3))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)
      ∧ m ((c.tc : Thread Cert.KernelIdeal.nD Cert.KernelIdeal.τ).loc Cert.KernelIdeal.main_arg2) = m' (((0 : Dev Cert.UnclippedIdeal.nD).tc : Thread Cert.UnclippedIdeal.nD Cert.UnclippedIdeal.τ).loc Cert.UnclippedIdeal.main_arg2)
      ∧ m ((c.tc : Thread Cert.KernelIdeal.nD Cert.KernelIdeal.τ).loc Cert.KernelIdeal.main_arg3) = m' (((0 : Dev Cert.UnclippedIdeal.nD).tc : Thread Cert.UnclippedIdeal.nD Cert.UnclippedIdeal.τ).loc Cert.UnclippedIdeal.main_arg3)) →
    ∃ (v0 : Buf (Elt Ideal) (((0 : Dev Cert.UnclippedIdeal.nD).tc : Thread Cert.UnclippedIdeal.nD Cert.UnclippedIdeal.τ).loc Cert.UnclippedIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v9) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2)
          ∧ r.2.mem (((0 : Dev Cert.UnclippedIdeal.nD).tc : Thread Cert.UnclippedIdeal.nD Cert.UnclippedIdeal.τ).loc Cert.UnclippedIdeal.main_arg3) = m' (((0 : Dev Cert.UnclippedIdeal.nD).tc : Thread Cert.UnclippedIdeal.nD Cert.UnclippedIdeal.τ).loc Cert.UnclippedIdeal.main_arg3))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ quiescent_UnclippedIdeal (hUnclippedIdeal := hUnclippedIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
    ∧ algebraic_KernelIdeal_UnclippedIdeal (hKernelIdeal := hKernelIdeal) (hUnclippedIdeal := hUnclippedIdeal)
-- ==== Pre_bounded_KernelIdeal.lean ====
abbrev S4096x128 : Shape := ⟨2, ![4096, 128]⟩
abbrev S4096x2048 : Shape := ⟨2, ![4096, 2048]⟩
abbrev S1 : Shape := ⟨1, ![1]⟩
abbrev S_ : Shape := ⟨0, ![]⟩
abbrev S4096 : Shape := ⟨1, ![4096]⟩

class Facts : Prop where
  reducesTo_S4096x128_S4096_d1 : S4096x128.ReducesTo [1] S4096
  h_S_ : 0 < S_.numel
  reducesTo_S4096x2048_S_d0_1 : S4096x2048.ReducesTo [0, 1] S_
  bcast_S_S1 : S_.BroadcastsInDim S1 (![] : Fin 0 → Fin S1.rank)
  bcast_S1_S4096_0 : S1.BroadcastsInDim S4096 (![0] : Fin 1 → Fin S4096.rank)
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x128 .f32) (main_arg1 : FVec F S4096x2048 .f32) (main_arg2 : FVec F S1 .f32) (main_arg3 : FVec F S1 .f32) : IVec S_ 1 :=
  let main_v0 : FVec F S4096x128 .f32 := Host.absf main_arg0
  let main_cst : FVec F S_ .f32 := constant S_ .f32 0x00000000#32
  let main_v1 : FVec F S4096 .f32 := (fun x v => Host.reduceAdd x v reducesTo_S4096x128_S4096_d1 h_S_) main_v0 main_cst
  let main_v2 : FVec F S4096x2048 .f32 := Host.absf main_arg1
  let main_cst_0 : FVec F S_ .f32 := constant S_ .f32 0xFF800000#32
  let main_v3 : FVec F S_ .f32 := (fun x v => Host.reduce FloatOps.maximumf x v reducesTo_S4096x2048_S_d0_1 h_S_) main_v2 main_cst_0
  let main_v4 : FVec F S1 .f32 := mulf main_arg2 main_arg3
  let main_v5 : FVec F S1 .f32 := Host.absf main_v4
  let main_v6 : FVec F S1 .f32 := broadcastInDim S1 ![] bcast_S_S1 main_v3
  let main_v7 : FVec F S1 .f32 := mulf main_v6 main_v5
  let main_v8 : FVec F S4096 .f32 := broadcastInDim S4096 ![0] bcast_S1_S4096_0 main_v7
  let main_v9 : FVec F S4096 .f32 := mulf main_v1 main_v8
  let main_cst_1 : FVec F S_ .f32 := constant S_ .f32 0x3FF00000#32
  let main_v10 : FVec F S4096 .f32 := broadcastInDim S4096 ![] bcast_S_S4096 main_cst_1
  let main_v11 : IVec S4096 1 := cmpf .ole main_v9 main_v10
  let main_c : IVec S_ 1 := constantI S_ 1 1#1
  let main_v12 : IVec S_ 1 := (fun x v => Host.reduce IntOp.andi x v reducesTo_S4096_S_d0 h_S_) main_v11 main_c
  main_v12
-- ==== Pre_bounded_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4096 : Shape := ⟨1, ![4096]⟩

class Facts : Prop where
  reducesTo_S4096x4096_S4096_d1 : S4096x4096.ReducesTo [1] S4096
  h_S_ : 0 < S_.numel
  reducesTo_S4096x2048_S_d0_1 : S4096x2048.ReducesTo [0, 1] S_
  bcast_S_S1 : S_.BroadcastsInDim S1 (![] : Fin 0 → Fin S1.rank)
  bcast_S1_S4096_0 : S1.BroadcastsInDim S4096 (![0] : Fin 1 → Fin S4096.rank)
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x2048 .f32) (main_arg2 : FVec F S1 .f32) (main_arg3 : FVec F S1 .f32) : IVec S_ 1 :=
  let main_v0 : FVec F S4096x4096 .f32 := Host.absf main_arg0
  let main_cst : FVec F S_ .f32 := constant S_ .f32 0x00000000#32
  let main_v1 : FVec F S4096 .f32 := (fun x v => Host.reduceAdd x v reducesTo_S4096x4096_S4096_d1 h_S_) main_v0 main_cst
  let main_v2 : FVec F S4096x2048 .f32 := Host.absf main_arg1
  let main_cst_0 : FVec F S_ .f32 := constant S_ .f32 0xFF800000#32
  let main_v3 : FVec F S_ .f32 := (fun x v => Host.reduce FloatOps.maximumf x v reducesTo_S4096x2048_S_d0_1 h_S_) main_v2 main_cst_0
  let main_v4 : FVec F S1 .f32 := mulf main_arg2 main_arg3
  let main_v5 : FVec F S1 .f32 := Host.absf main_v4
  let main_v6 : FVec F S1 .f32 := broadcastInDim S1 ![] bcast_S_S1 main_v3
  let main_v7 : FVec F S1 .f32 := mulf main_v6 main_v5
  let main_v8 : FVec F S4096 .f32 := broadcastInDim S4096 ![0] bcast_S1_S4096_0 main_v7
  let main_v9 : FVec F S4096 .f32 := mulf main_v1 main_v8
  let main_cst_1 : FVec F S_ .f32 := constant S_ .f32 0x3FF00000#32
  let main_v10 : FVec F S4096 .f32 := broadcastInDim S4096 ![] bcast_S_S4096 main_cst_1
  let main_v11 : IVec S4096 1 := cmpf .ole main_v9 main_v10
  let main_c : IVec S_ 1 := constantI S_ 1 1#1
  let main_v12 : IVec S_ 1 := (fun x v => Host.reduce IntOp.andi x v reducesTo_S4096_S_d0 h_S_) main_v11 main_c
  main_v12
-- ==== Kernel.lean ====
abbrev S4096x128 : Shape := ⟨2, ![4096, 128]⟩
abbrev S4096x2048 : Shape := ⟨2, ![4096, 2048]⟩
abbrev S1 : Shape := ⟨1, ![1]⟩
abbrev S128x2048 : Shape := ⟨2, ![128, 2048]⟩
abbrev S128x4096 : Shape := ⟨2, ![128, 4096]⟩
abbrev S2x512x2048 : Shape := ⟨3, ![2, 512, 2048]⟩
abbrev S32 : Shape := ⟨1, ![32]⟩
abbrev S2x4 : Shape := ⟨2, ![2, 4]⟩
abbrev S_ : Shape := ⟨0, ![]⟩
abbrev S128x128 : Shape := ⟨2, ![128, 128]⟩
abbrev S1x1 : Shape := ⟨2, ![1, 1]⟩
abbrev S1x128x2048 : Shape := ⟨3, ![1, 128, 2048]⟩
abbrev S128x512 : Shape := ⟨2, ![128, 512]⟩
abbrev S1x512x2048 : Shape := ⟨3, ![1, 512, 2048]⟩
abbrev S512x2048 : Shape := ⟨2, ![512, 2048]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S4096x128, .fp8e4m3⟩
  | .local _ .vmem, ⟨3, _⟩ => ⟨S128x4096, .fp8e4m3⟩
  | .local _ .vmem, ⟨4, _⟩ => ⟨S2x512x2048, .f32⟩
  | .local _ .smem, ⟨0, _⟩ => ⟨S1, .f32⟩
  | .local _ .smem, ⟨1, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v134 : BitVec 32 := Scalar.muli v2 c128_i32
  let v135 : Index := Scalar.indexCast v134
  let c0_128 : Index := 0#32
  ![v135.toNat, 0]
def k0_off2 (d0 : Dev nD) (c1_i32_131 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v140 : BitVec 32 := Scalar.addi v2 c1_i32_131
  let c32_i32_132 : BitVec 32 := 32#32
  let v141 : BitVec 32 := Scalar.remsi v140 c32_i32_132
  let c128_i32_133 : BitVec 32 := 128#32
  let v142 : BitVec 32 := Scalar.muli v141 c128_i32_133
  let c0_i32_140 : BitVec 32 := 0#32
  ![v142.toNat, 0]
def k0_dev32 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v140 : BitVec 32 := Scalar.addi v2 c1_i32_131
  let c32_i32_132 : BitVec 32 := 32#32
  let v141 : BitVec 32 := Scalar.remsi v140 c32_i32_132
  let c1_i32_136 : BitVec 32 := 1#32
  let v143 : BitVec 32 := Scalar.muli v141 c1_i32_136
  let v144 : BitVec 32 := Scalar.addi c0_i32_137 v143
  v144.toNat
def k0_dev33 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_141 : BitVec 32 := 2#32
  let v151 : BitVec 32 := Scalar.addi v2 c2_i32_141
  let c32_i32_142 : BitVec 32 := 32#32
  let v152 : BitVec 32 := Scalar.remsi v151 c32_i32_142
  let c1_i32_146 : BitVec 32 := 1#32
  let v154 : BitVec 32 := Scalar.muli v152 c1_i32_146
  let v155 : BitVec 32 := Scalar.addi c0_i32_147 v154
  v155.toNat
def k0_dev34 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_150 : BitVec 32 := 3#32
  let v162 : BitVec 32 := Scalar.addi v2 c3_i32_150
  let c32_i32_151 : BitVec 32 := 32#32
  let v163 : BitVec 32 := Scalar.remsi v162 c32_i32_151
  let c1_i32_155 : BitVec 32 := 1#32
  let v165 : BitVec 32 := Scalar.muli v163 c1_i32_155
  let v166 : BitVec 32 := Scalar.addi c0_i32_156 v165
  v166.toNat
def k0_dev35 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_159 : BitVec 32 := 4#32
  let v173 : BitVec 32 := Scalar.addi v2 c4_i32_159
  let c32_i32_160 : BitVec 32 := 32#32
  let v174 : BitVec 32 := Scalar.remsi v173 c32_i32_160
  let c1_i32_164 : BitVec 32 := 1#32
  let v176 : BitVec 32 := Scalar.muli v174 c1_i32_164
  let v177 : BitVec 32 := Scalar.addi c0_i32_165 v176
  v177.toNat
def k0_dev36 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_168 : BitVec 32 := 5#32
  let v184 : BitVec 32 := Scalar.addi v2 c5_i32_168
  let c32_i32_169 : BitVec 32 := 32#32
  let v185 : BitVec 32 := Scalar.remsi v184 c32_i32_169
  let c1_i32_173 : BitVec 32 := 1#32
  let v187 : BitVec 32 := Scalar.muli v185 c1_i32_173
  let v188 : BitVec 32 := Scalar.addi c0_i32_174 v187
  v188.toNat
def k0_dev37 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_177 : BitVec 32 := 6#32
  let v195 : BitVec 32 := Scalar.addi v2 c6_i32_177
  let c32_i32_178 : BitVec 32 := 32#32
  let v196 : BitVec 32 := Scalar.remsi v195 c32_i32_178
  let c1_i32_182 : BitVec 32 := 1#32
  let v198 : BitVec 32 := Scalar.muli v196 c1_i32_182
  let v199 : BitVec 32 := Scalar.addi c0_i32_183 v198
  v199.toNat
def k0_dev38 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_186 : BitVec 32 := 7#32
  let v206 : BitVec 32 := Scalar.addi v2 c7_i32_186
  let c32_i32_187 : BitVec 32 := 32#32
  let v207 : BitVec 32 := Scalar.remsi v206 c32_i32_187
  let c1_i32_191 : BitVec 32 := 1#32
  let v209 : BitVec 32 := Scalar.muli v207 c1_i32_191
  let v210 : BitVec 32 := Scalar.addi c0_i32_192 v209
  v210.toNat
def k0_dev39 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_195 : BitVec 32 := 8#32
  let v217 : BitVec 32 := Scalar.addi v2 c8_i32_195
  let c32_i32_196 : BitVec 32 := 32#32
  let v218 : BitVec 32 := Scalar.remsi v217 c32_i32_196
  let c1_i32_200 : BitVec 32 := 1#32
  let v220 : BitVec 32 := Scalar.muli v218 c1_i32_200
  let v221 : BitVec 32 := Scalar.addi c0_i32_201 v220
  v221.toNat
def k0_dev40 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_204 : BitVec 32 := 9#32
  let v228 : BitVec 32 := Scalar.addi v2 c9_i32_204
  let c32_i32_205 : BitVec 32 := 32#32
  let v229 : BitVec 32 := Scalar.remsi v228 c32_i32_205
  let c1_i32_209 : BitVec 32 := 1#32
  let v231 : BitVec 32 := Scalar.muli v229 c1_i32_209
  let v232 : BitVec 32 := Scalar.addi c0_i32_210 v231
  v232.toNat
def k0_dev41 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_213 : BitVec 32 := 10#32
  let v239 : BitVec 32 := Scalar.addi v2 c10_i32_213
  let c32_i32_214 : BitVec 32 := 32#32
  let v240 : BitVec 32 := Scalar.remsi v239 c32_i32_214
  let c1_i32_218 : BitVec 32 := 1#32
  let v242 : BitVec 32 := Scalar.muli v240 c1_i32_218
  let v243 : BitVec 32 := Scalar.addi c0_i32_219 v242
  v243.toNat
def k0_dev42 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_222 : BitVec 32 := 11#32
  let v250 : BitVec 32 := Scalar.addi v2 c11_i32_222
  let c32_i32_223 : BitVec 32 := 32#32
  let v251 : BitVec 32 := Scalar.remsi v250 c32_i32_223
  let c1_i32_227 : BitVec 32 := 1#32
  let v253 : BitVec 32 := Scalar.muli v251 c1_i32_227
  let v254 : BitVec 32 := Scalar.addi c0_i32_228 v253
  v254.toNat
def k0_dev43 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_231 : BitVec 32 := 12#32
  let v261 : BitVec 32 := Scalar.addi v2 c12_i32_231
  let c32_i32_232 : BitVec 32 := 32#32
  let v262 : BitVec 32 := Scalar.remsi v261 c32_i32_232
  let c1_i32_236 : BitVec 32 := 1#32
  let v264 : BitVec 32 := Scalar.muli v262 c1_i32_236
  let v265 : BitVec 32 := Scalar.addi c0_i32_237 v264
  v265.toNat
def k0_dev44 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_240 : BitVec 32 := 13#32
  let v272 : BitVec 32 := Scalar.addi v2 c13_i32_240
  let c32_i32_241 : BitVec 32 := 32#32
  let v273 : BitVec 32 := Scalar.remsi v272 c32_i32_241
  let c1_i32_245 : BitVec 32 := 1#32
  let v275 : BitVec 32 := Scalar.muli v273 c1_i32_245
  let v276 : BitVec 32 := Scalar.addi c0_i32_246 v275
  v276.toNat
def k0_dev45 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_249 : BitVec 32 := 14#32
  let v283 : BitVec 32 := Scalar.addi v2 c14_i32_249
  let c32_i32_250 : BitVec 32 := 32#32
  let v284 : BitVec 32 := Scalar.remsi v283 c32_i32_250
  let c1_i32_254 : BitVec 32 := 1#32
  let v286 : BitVec 32 := Scalar.muli v284 c1_i32_254
  let v287 : BitVec 32 := Scalar.addi c0_i32_255 v286
  v287.toNat
def k0_dev46 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_258 : BitVec 32 := 15#32
  let v294 : BitVec 32 := Scalar.addi v2 c15_i32_258
  let c32_i32_259 : BitVec 32 := 32#32
  let v295 : BitVec 32 := Scalar.remsi v294 c32_i32_259
  let c1_i32_263 : BitVec 32 := 1#32
  let v297 : BitVec 32 := Scalar.muli v295 c1_i32_263
  let v298 : BitVec 32 := Scalar.addi c0_i32_264 v297
  v298.toNat
def k0_dev47 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_267 : BitVec 32 := 16#32
  let v305 : BitVec 32 := Scalar.addi v2 c16_i32_267
  let c32_i32_268 : BitVec 32 := 32#32
  let v306 : BitVec 32 := Scalar.remsi v305 c32_i32_268
  let c1_i32_272 : BitVec 32 := 1#32
  let v308 : BitVec 32 := Scalar.muli v306 c1_i32_272
  let v309 : BitVec 32 := Scalar.addi c0_i32_273 v308
  v309.toNat
def k0_dev48 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_276 : BitVec 32 := 17#32
  let v316 : BitVec 32 := Scalar.addi v2 c17_i32_276
  let c32_i32_277 : BitVec 32 := 32#32
  let v317 : BitVec 32 := Scalar.remsi v316 c32_i32_277
  let c1_i32_281 : BitVec 32 := 1#32
  let v319 : BitVec 32 := Scalar.muli v317 c1_i32_281
  let v320 : BitVec 32 := Scalar.addi c0_i32_282 v319
  v320.toNat
def k0_dev49 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_285 : BitVec 32 := 18#32
  let v327 : BitVec 32 := Scalar.addi v2 c18_i32_285
  let c32_i32_286 : BitVec 32 := 32#32
  let v328 : BitVec 32 := Scalar.remsi v327 c32_i32_286
  let c1_i32_290 : BitVec 32 := 1#32
  let v330 : BitVec 32 := Scalar.muli v328 c1_i32_290
  let v331 : BitVec 32 := Scalar.addi c0_i32_291 v330
  v331.toNat
def k0_dev50 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_294 : BitVec 32 := 19#32
  let v338 : BitVec 32 := Scalar.addi v2 c19_i32_294
  let c32_i32_295 : BitVec 32 := 32#32
  let v339 : BitVec 32 := Scalar.remsi v338 c32_i32_295
  let c1_i32_299 : BitVec 32 := 1#32
  let v341 : BitVec 32 := Scalar.muli v339 c1_i32_299
  let v342 : BitVec 32 := Scalar.addi c0_i32_300 v341
  v342.toNat
def k0_dev51 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_303 : BitVec 32 := 20#32
  let v349 : BitVec 32 := Scalar.addi v2 c20_i32_303
  let c32_i32_304 : BitVec 32 := 32#32
  let v350 : BitVec 32 := Scalar.remsi v349 c32_i32_304
  let c1_i32_308 : BitVec 32 := 1#32
  let v352 : BitVec 32 := Scalar.muli v350 c1_i32_308
  let v353 : BitVec 32 := Scalar.addi c0_i32_309 v352
  v353.toNat
def k0_dev52 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_312 : BitVec 32 := 21#32
  let v360 : BitVec 32 := Scalar.addi v2 c21_i32_312
  let c32_i32_313 : BitVec 32 := 32#32
  let v361 : BitVec 32 := Scalar.remsi v360 c32_i32_313
  let c1_i32_317 : BitVec 32 := 1#32
  let v363 : BitVec 32 := Scalar.muli v361 c1_i32_317
  let v364 : BitVec 32 := Scalar.addi c0_i32_318 v363
  v364.toNat
def k0_dev53 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_321 : BitVec 32 := 22#32
  let v371 : BitVec 32 := Scalar.addi v2 c22_i32_321
  let c32_i32_322 : BitVec 32 := 32#32
  let v372 : BitVec 32 := Scalar.remsi v371 c32_i32_322
  let c1_i32_326 : BitVec 32 := 1#32
  let v374 : BitVec 32 := Scalar.muli v372 c1_i32_326
  let v375 : BitVec 32 := Scalar.addi c0_i32_327 v374
  v375.toNat
def k0_dev54 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_330 : BitVec 32 := 23#32
  let v382 : BitVec 32 := Scalar.addi v2 c23_i32_330
  let c32_i32_331 : BitVec 32 := 32#32
  let v383 : BitVec 32 := Scalar.remsi v382 c32_i32_331
  let c1_i32_335 : BitVec 32 := 1#32
  let v385 : BitVec 32 := Scalar.muli v383 c1_i32_335
  let v386 : BitVec 32 := Scalar.addi c0_i32_336 v385
  v386.toNat
def k0_dev55 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_339 : BitVec 32 := 24#32
  let v393 : BitVec 32 := Scalar.addi v2 c24_i32_339
  let c32_i32_340 : BitVec 32 := 32#32
  let v394 : BitVec 32 := Scalar.remsi v393 c32_i32_340
  let c1_i32_344 : BitVec 32 := 1#32
  let v396 : BitVec 32 := Scalar.muli v394 c1_i32_344
  let v397 : BitVec 32 := Scalar.addi c0_i32_345 v396
  v397.toNat
def k0_dev56 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_348 : BitVec 32 := 25#32
  let v404 : BitVec 32 := Scalar.addi v2 c25_i32_348
  let c32_i32_349 : BitVec 32 := 32#32
  let v405 : BitVec 32 := Scalar.remsi v404 c32_i32_349
  let c1_i32_353 : BitVec 32 := 1#32
  let v407 : BitVec 32 := Scalar.muli v405 c1_i32_353
  let v408 : BitVec 32 := Scalar.addi c0_i32_354 v407
  v408.toNat
def k0_dev57 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_357 : BitVec 32 := 26#32
  let v415 : BitVec 32 := Scalar.addi v2 c26_i32_357
  let c32_i32_358 : BitVec 32 := 32#32
  let v416 : BitVec 32 := Scalar.remsi v415 c32_i32_358
  let c1_i32_362 : BitVec 32 := 1#32
  let v418 : BitVec 32 := Scalar.muli v416 c1_i32_362
  let v419 : BitVec 32 := Scalar.addi c0_i32_363 v418
  v419.toNat
def k0_dev58 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_366 : BitVec 32 := 27#32
  let v426 : BitVec 32 := Scalar.addi v2 c27_i32_366
  let c32_i32_367 : BitVec 32 := 32#32
  let v427 : BitVec 32 := Scalar.remsi v426 c32_i32_367
  let c1_i32_371 : BitVec 32 := 1#32
  let v429 : BitVec 32 := Scalar.muli v427 c1_i32_371
  let v430 : BitVec 32 := Scalar.addi c0_i32_372 v429
  v430.toNat
def k0_dev59 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_375 : BitVec 32 := 28#32
  let v437 : BitVec 32 := Scalar.addi v2 c28_i32_375
  let c32_i32_376 : BitVec 32 := 32#32
  let v438 : BitVec 32 := Scalar.remsi v437 c32_i32_376
  let c1_i32_380 : BitVec 32 := 1#32
  let v440 : BitVec 32 := Scalar.muli v438 c1_i32_380
  let v441 : BitVec 32 := Scalar.addi c0_i32_381 v440
  v441.toNat
def k0_dev60 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_384 : BitVec 32 := 29#32
  let v448 : BitVec 32 := Scalar.addi v2 c29_i32_384
  let c32_i32_385 : BitVec 32 := 32#32
  let v449 : BitVec 32 := Scalar.remsi v448 c32_i32_385
  let c1_i32_389 : BitVec 32 := 1#32
  let v451 : BitVec 32 := Scalar.muli v449 c1_i32_389
  let v452 : BitVec 32 := Scalar.addi c0_i32_390 v451
  v452.toNat
def k0_dev61 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_393 : BitVec 32 := 30#32
  let v459 : BitVec 32 := Scalar.addi v2 c30_i32_393
  let c32_i32_394 : BitVec 32 := 32#32
  let v460 : BitVec 32 := Scalar.remsi v459 c32_i32_394
  let c1_i32_398 : BitVec 32 := 1#32
  let v462 : BitVec 32 := Scalar.muli v460 c1_i32_398
  let v463 : BitVec 32 := Scalar.addi c0_i32_399 v462
  v463.toNat
def k0_dev62 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_402 : BitVec 32 := 31#32
  let v470 : BitVec 32 := Scalar.addi v2 c31_i32_402
  let c32_i32_403 : BitVec 32 := 32#32
  let v471 : BitVec 32 := Scalar.remsi v470 c32_i32_403
  let c1_i32_407 : BitVec 32 := 1#32
  let v473 : BitVec 32 := Scalar.muli v471 c1_i32_407
  let v474 : BitVec 32 := Scalar.addi c0_i32_408 v473
  v474.toNat
def k0_off3 (d0 : Dev nD) (c0_i32_411 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v481 : BitVec 32 := Scalar.subi v2 c0_i32_411
  let c32_i32_412 : BitVec 32 := 32#32
  let v482 : BitVec 32 := Scalar.addi v481 c32_i32_412
  let c32_i32_413 : BitVec 32 := 32#32
  let v483 : BitVec 32 := Scalar.remsi v482 c32_i32_413
  let c128_i32_414 : BitVec 32 := 128#32
  let v484 : BitVec 32 := Scalar.muli v483 c128_i32_414
  let c0_i32_420 : BitVec 32 := 0#32
  ![v484.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Protocol.lean ====
/-
# The all-to-all's protocol: memory, cells, schedule and contents

Thirty-two devices. Device `c` casts its block of `x` to eight-bit floats (`xe`, 4096 rows of 128), keeps the rows
`128c …` of it, and sends the rows `128(c+t) …` to device `c + t`, whose gather buffer `xf` takes them as columns
`128t …`. Before it sends it has heard from every other device: each device signals each other's barrier semaphore, and
with that signal hands over the columns of its own gather buffer the other is to fill.

Duties are numbered by `Fin 32`: at device `c`'s barrier cell duty `t` is paid by device `c + t`, which hands over
the columns `128t …` of its gather buffer. The cell of the `t`-th receive semaphore of device `c` has one duty, paid by
device `c - t`; that of the `t`-th send semaphore one duty, paid by `c` itself.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.Tactic

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

/-! ## The resource algebra: the pipeline's copy, the all-to-all's, the local transfers' counters -/

abbrev UB : Type := URounds (GSem nD τ sig) (Fin 32)
abbrev UU : Type := UR sig nD τ × (UB × Counters)

/-- The assertions' algebra. -/
abbrev MM (F : FTy → Type) : Type := MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB (MM F)).LandsIn (upEmb : UEmb _ (MM F)) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memory -/

abbrev xM : Memref sig .tc .vmem S4096x128 .f32 := Memref.whole cc0_stg0_0
abbrev wM : Memref sig .tc .hbm S4096x2048 .f32 := Memref.whole main_arg1
abbrev sxM : Memref sig .tc .smem S1 .f32 := Memref.whole cc0_stg1_0
abbrev swM : Memref sig .tc .smem S1 .f32 := Memref.whole cc0_stg2_0
abbrev oM : Memref sig .tc .vmem S128x2048 .f32 := Memref.whole cc0_stg3_0
abbrev xeM : Memref sig .tc .vmem S4096x128 .fp8e4m3 := Memref.whole cc0_scratch0
abbrev xfM : Memref sig .tc .vmem S128x4096 .fp8e4m3 := Memref.whole cc0_scratch1
abbrev wbM : Memref sig .tc .vmem S2x512x2048 .f32 := Memref.whole cc0_scratch2

abbrev xeL (c : Dev nD) : Loc nD τ sig := (c : Thread nD τ).loc cc0_scratch0
abbrev xfL (c : Dev nD) : Loc nD τ sig := (c : Thread nD τ).loc cc0_scratch1
abbrev wbL (c : Dev nD) : Loc nD τ sig := (c : Thread nD τ).loc cc0_scratch2
abbrev wL (c : Dev nD) : Loc nD τ sig := (c : Thread nD τ).loc main_arg1

/-- Rows `128b … 128b + 127` of the cast block. -/
def rowsX (b : ℕ) : Finset S4096x128.Idx := Finset.univ.filter fun i => 128 * b ≤ (i 0).val ∧ (i 0).val < 128 * b + 128
/-- Columns `128a … 128b - 1` of the gather buffer. -/
def colsF (a b : ℕ) : Finset S128x4096.Idx := Finset.univ.filter fun i => 128 * a ≤ (i 1).val ∧ (i 1).val < 128 * b
/-- Rows `128b … 128b + 127` of the weights. -/
def rowsW (b : ℕ) : Finset S4096x2048.Idx := Finset.univ.filter fun i => 128 * b ≤ (i 0).val ∧ (i 0).val < 128 * b + 128
/-- Rows `128a … 128b - 1` of slot `s` of the weights' double buffer. -/
def rowsB (s a b : ℕ) : Finset S2x512x2048.Idx :=
  Finset.univ.filter fun i => (i 0).val = s ∧ 128 * a ≤ (i 1).val ∧ (i 1).val < 128 * b

omit [FloatOps F] in
theorem set_xe (off : Fin 2 → ℕ) (b : ℕ) (h : off = ![128 * b, 0]) (inb : ∀ a, off a + S128x128.size a ≤ S4096x128.size a) (hr) :
    (xeM.slice (Rect.unit (s := S4096x128) off S128x128.size inb) hr).view.set = rowsX b := by
  subst h
  refine (View.set_slice_whole _ _).trans ?_
  ext i
  refine (Rect.mem_set_unit ..).trans (Fin.forall_fin_two.trans ?_)
  have : (i 1).val < 128 := (i 1).isLt
  simp only [rowsX, Finset.mem_filter, Finset.mem_univ, true_and]
  simp [S128x128]
  omega

omit [FloatOps F] in
theorem set_xf (off : Fin 2 → ℕ) (t : ℕ) (h : off = ![0, 128 * t]) (inb : ∀ a, off a + S128x128.size a ≤ S128x4096.size a) (hr) :
    (xfM.slice (Rect.unit (s := S128x4096) off S128x128.size inb) hr).view.set = colsF t (t + 1) := by
  subst h
  refine (View.set_slice_whole _ _).trans ?_
  ext i
  refine (Rect.mem_set_unit ..).trans (Fin.forall_fin_two.trans ?_)
  have : (i 0).val < 128 := (i 0).isLt
  simp only [colsF, Finset.mem_filter, Finset.mem_univ, true_and]
  simp [S128x128]
  omega

omit [FloatOps F] in
theorem set_w (off : Fin 2 → ℕ) (b : ℕ) (h : off = ![128 * b, 0]) (inb : ∀ a, off a + S128x2048.size a ≤ S4096x2048.size a) (hr) :
    (wM.slice (Rect.unit (s := S4096x2048) off S128x2048.size inb) hr).view.set = rowsW b := by
  subst h
  refine (View.set_slice_whole _ _).trans ?_
  ext i
  refine (Rect.mem_set_unit ..).trans (Fin.forall_fin_two.trans ?_)
  have : (i 1).val < 2048 := (i 1).isLt
  simp only [rowsW, Finset.mem_filter, Finset.mem_univ, true_and]
  simp [S128x2048]
  omega

omit [FloatOps F] in
theorem set_wb (off : Fin 3 → ℕ) (s u : ℕ) (h : off = ![s, 128 * u, 0]) (inb : ∀ a, off a + S1x128x2048.size a ≤ S2x512x2048.size a) (hr) (hs) :
    ((wbM.slice (Rect.unit (s := S2x512x2048) off S1x128x2048.size inb) hr).squeeze S128x2048 hs).view.set = rowsB s u (u + 1) := by
  subst h
  refine (View.set_reshape _ _).trans ((View.set_slice_whole _ _).trans ?_)
  ext i
  refine (Rect.mem_set_unit ..).trans ((Fin.forall_fin_succ (n := 2)).trans ((and_congr_right' Fin.forall_fin_two).trans ?_))
  have : (i 2).val < 2048 := (i 2).isLt
  simp only [rowsB, Finset.mem_filter, Finset.mem_univ, true_and]
  simp [S1x128x2048]
  omega

/-! ## Semaphores and cells -/

abbrev barS : Sem sig := (SemArray.scalar (sig.barrier 0 rfl) : Sems sig S_).sem
def sendS (t : Fin 32) : DmaSem sig := ⟨4 + t.val, by show 4 + t.val < 76; omega⟩
def recvS (t : Fin 32) : DmaSem sig := ⟨36 + t.val, by show 36 + t.val < 76; omega⟩
def wS (p : Fin 8) : DmaSem sig := ⟨68 + p.val, by show 68 + p.val < 76; omega⟩

abbrev barCell (c : Dev nD) : GSem nD τ sig := ((c : Thread nD τ), .reg barS)
abbrev sendCell (c : Dev nD) (t : Fin 32) : GSem nD τ sig := ((c : Thread nD τ), .dma (sendS t))
abbrev recvCell (c : Dev nD) (t : Fin 32) : GSem nD τ sig := ((c : Thread nD τ), .dma (recvS t))

/-- The bytes a 128 × 128 block credits, and those a 128 × 2048 block of weights credits. -/
abbrev N : ℕ := (xfM.slice (Rect.unit (s := S128x4096) ![0, 0] S128x128.size inb_S128x4096_S128x128_0_0) (fun _ => rfl)).view.dmaCredit
theorem N_pos : 0 < N := View.dmaCredit_pos _ (by decide)

/-! ## Contents -/

/-- Device `d`'s block of `x` as the launch stages it, and its cast. -/
def xstg (d : Dev nD) : Vec F S4096x128 .f32 :=
  (win0_0.blk (0 : Fin 1)).view.read (Elt F) ((s₀ m ρ).mem ((d : Thread nD τ).loc main_arg0))
def x8 (d : Dev nD) : Vec F S4096x128 .fp8e4m3 := k0_pay1 (xstg m ρ d)

/-- What device `c`'s gather buffer comes to hold: columns `128t …` are rows `128c …` of device `c - t`'s cast block. -/
def gath (c : Dev nD) : Vec F S128x4096 .fp8e4m3 := fun i =>
  x8 m ρ (c - (Fin.ofNat 32 ((i 1).val / 128) : Fin 32))
    (ix2 ⟨128 * c.val + (i 0).val, by have : (i 0).val < 128 := (i 0).isLt; have : c.val < 32 := c.isLt; omega⟩
      ⟨(i 1).val % 128, Nat.mod_lt _ (by decide)⟩)

/-- The weights, as device `c` holds them. -/
def wArr (c : Dev nD) : Vec F S4096x2048 .f32 := (s₀ m ρ).mem (wL c)

/-- What a slot of the weights' double buffer holds for the group `g`: the rows of blocks `c - 4g, …, c - 4g - 3`. -/
def wcon (c : Dev nD) (g : ℕ) : Vec F S2x512x2048 .f32 := fun i =>
  wArr m ρ c (ix2 ⟨128 * (c - Fin.ofNat 32 (4 * g + (i 1).val / 128) : Fin 32).val + (i 1).val % 128, by
      have : (c - Fin.ofNat 32 (4 * g + (i 1).val / 128) : Fin 32).val < 32 := Fin.isLt _
      have := Nat.mod_lt (i 1).val (show 0 < 128 by decide); omega⟩ (i 2))

/-! ## Separating conjunctions over a stretch of indices -/

section Rng
variable {n : ℕ}

/-- The indices `a, …, b - 1`. -/
def stretch (n a b : ℕ) : Finset (Fin n) := Finset.univ.filter fun i => a ≤ i.val ∧ i.val < b
def rng (Φ : Fin n → sProp (MM F)) (a b : ℕ) : sProp (MM F) := bigSep (stretch n a b) Φ

omit [FloatOps F] in
theorem rng_empty (Φ : Fin n → sProp (MM F)) (a b : ℕ) (h : b ≤ a) : rng Φ a b = iprop(emp) := by
  unfold rng
  rw [show stretch n a b = ∅ from Finset.filter_eq_empty_iff.mpr fun i _ => by omega]
  exact bigSep_empty

omit [FloatOps F] in
theorem rng_full (Φ : Fin n → sProp (MM F)) : rng Φ 0 n = bigSep Finset.univ Φ := by
  unfold rng
  rw [show stretch n 0 n = Finset.univ from Finset.filter_true_of_mem fun i _ => ⟨Nat.zero_le _, i.isLt⟩]

omit [FloatOps F] in
theorem rng_split (Φ : Fin n → sProp (MM F)) (a b d : ℕ) (h1 : a ≤ b) (h2 : b ≤ d) : rng Φ a d = iprop(rng Φ a b ∗ rng Φ b d) := by
  unfold rng
  rw [show stretch n a d = stretch n a b ∪ stretch n b d from by
    ext i; simp only [stretch, Finset.mem_union, Finset.mem_filter, Finset.mem_univ, true_and]; omega]
  exact bigSep_union (Finset.disjoint_left.mpr fun i hi hj => by
    simp only [stretch, Finset.mem_filter, Finset.mem_univ, true_and] at hi hj; omega)

omit [FloatOps F] in
theorem rng_one (Φ : Fin n → sProp (MM F)) (i : Fin n) : rng Φ i.val (i.val + 1) = Φ i := by
  unfold rng
  rw [show stretch n i.val (i.val + 1) = {i} from by
    ext j; simp only [stretch, Finset.mem_filter, Finset.mem_univ, true_and, Finset.mem_singleton, Fin.ext_iff]; omega]
  exact bigSep_singleton

omit [FloatOps F] in
theorem rng_pop (Φ : Fin n → sProp (MM F)) (i : Fin n) (b : ℕ) (h : i.val < b) : rng Φ i.val b = iprop(Φ i ∗ rng Φ (i.val + 1) b) := by
  rw [rng_split Φ i.val (i.val + 1) b (Nat.le_succ _) h, rng_one]

omit [FloatOps F] in
theorem rng_push (Φ : Fin n → sProp (MM F)) (a : ℕ) (i : Fin n) (h : a ≤ i.val) : rng Φ a (i.val + 1) = iprop(rng Φ a i.val ∗ Φ i) := by
  rw [rng_split Φ a i.val (i.val + 1) h (Nat.le_succ _), rng_one]

omit [FloatOps F] in
theorem rng_mono {Φ Ψ : Fin n → sProp (MM F)} (a b : ℕ) (h : ∀ i : Fin n, a ≤ i.val → i.val < b → Φ i ⊢ Ψ i) : rng Φ a b ⊢ rng Ψ a b :=
  bigSep_mono fun i hi => by
    simp only [stretch, Finset.mem_filter, Finset.mem_univ, true_and] at hi; exact h i hi.1 hi.2

omit [FloatOps F] in
theorem rng_sep (Φ Ψ : Fin n → sProp (MM F)) (a b : ℕ) : rng (fun i => iprop(Φ i ∗ Ψ i)) a b = iprop(rng Φ a b ∗ rng Ψ a b) :=
  bigSep_sep' _ _ _
end Rng

/-! ## The schedule -/

/-- Columns `128t …` of device `d`'s gather buffer, at any contents. -/
def slotAny (d : Dev nD) (t : Fin 32) : sProp (MM F) := iprop(∃ f : Buf (Elt F) (xfL d), xfL d ↦[colsF t.val (t.val + 1)]{fullShare} f)
/-- The rows device `c` sends to device `c + t`. -/
def xblk (c : Dev nD) (t : Fin 32) : sProp (MM F) := iprop(xeL c ↦[rowsX (c + t : Fin 32).val]{fullShare} x8 m ρ c)
/-- Columns `128t …` of device `c`'s gather buffer, holding what device `c - t` sends. -/
def landed (c : Dev nD) (t : Fin 32) : sProp (MM F) := iprop(xfL c ↦[colsF t.val (t.val + 1)]{fullShare} gath m ρ c)

def barPay (c : Dev nD) (t : Fin 32) : sProp (MM F) := slotAny (c + t : Fin 32) t

instance barPay_storable (c : Dev nD) (t : Fin 32) : BI.Storable (upEmb : UEmb _ (MM F)) (barPay (F := F) c t) := by unfold barPay slotAny; infer_instance
instance xblk_storable (c : Dev nD) (t : Fin 32) : BI.Storable (upEmb : UEmb _ (MM F)) (xblk m ρ c t) := by unfold xblk; infer_instance
instance landed_storable (c : Dev nD) (t : Fin 32) : BI.Storable (upEmb : UEmb _ (MM F)) (landed m ρ c t) := by unfold landed; infer_instance

/-- Round 0's duties: thirty-one at a barrier cell, one at each send and receive cell but the first. -/
def dutiesOf (s : SemLoc sig) : Finset (Fin 32) :=
  match s with
  | .reg s => if s = barS then stretch 32 1 32 else ∅
  | .dma q => if (5 ≤ q.val ∧ q.val < 36) ∨ (37 ≤ q.val ∧ q.val < 68) then {0} else ∅

def Rd : Rounds.Schedule (GSem nD τ sig) (Fin 32) (MM F) where
  duties g r := if r = 0 ∧ g.1.2 = .tc then dutiesOf g.2 else ∅
  unitless _ := False
  amount g _ _ := match g.2 with | .reg _ => 1 | .dma _ => N
  payload g _ d := match g.2 with
    | .reg _ => barPay g.1.1 d
    | .dma q => if q.val < 36 then xblk m ρ g.1.1 (Fin.ofNat 32 (q.val - 4)) else landed m ρ g.1.1 (Fin.ofNat 32 (q.val - 36))
  amount_pos g _ _ _ := by
    rcases g with ⟨_, _ | _⟩
    · exact Nat.one_pos
    · exact N_pos

instance Rd_payload_storable (g : GSem nD τ sig) (r : ℕ) (d : Fin 32) :
    BI.Storable (upEmb : UEmb _ (MM F)) ((Rd (F := F) m ρ).payload g r d) := by
  rcases g with ⟨_, _ | q⟩
  · exact barPay_storable _ _
  · show BI.Storable upEmb (if _ then _ else _)
    split <;> infer_instance

section Sched
variable (c : Dev nD) (t : Fin 32)

theorem duties_bar : (Rd (F := F) m ρ).duties (barCell c) 0 = stretch 32 1 32 := by
  dsimp only [Rd]; rw [if_pos ⟨rfl, rfl⟩]; unfold dutiesOf; exact if_pos rfl
theorem duties_send (h : 1 ≤ t.val) : (Rd (F := F) m ρ).duties (sendCell c t) 0 = {0} := by
  dsimp only [Rd]; rw [if_pos ⟨rfl, rfl⟩]; unfold dutiesOf; exact if_pos (.inl ⟨show 5 ≤ 4 + t.val by omega, show 4 + t.val < 36 by omega⟩)
theorem duties_recv (h : 1 ≤ t.val) : (Rd (F := F) m ρ).duties (recvCell c t) 0 = {0} := by
  dsimp only [Rd]; rw [if_pos ⟨rfl, rfl⟩]; unfold dutiesOf; exact if_pos (.inr ⟨show 37 ≤ 36 + t.val by omega, show 36 + t.val < 68 by omega⟩)
theorem duties_later (g : GSem nD τ sig) : ∀ r, 1 ≤ r → (Rd (F := F) m ρ).duties g r = ∅ :=
  fun r hr => by dsimp only [Rd]; exact if_neg fun h => by omega
theorem duties_send0 : ∀ r, 0 ≤ r → (Rd (F := F) m ρ).duties (sendCell c 0) r = ∅ := fun r _ => by
  dsimp only [Rd]; split
  · decide
  · rfl
theorem duties_recv0 : ∀ r, 0 ≤ r → (Rd (F := F) m ρ).duties (recvCell c 0) r = ∅ := fun r _ => by
  dsimp only [Rd]; split
  · decide
  · rfl

theorem amount_bar (d : Fin 32) : (Rd (F := F) m ρ).amount (barCell c) 0 d = 1 := rfl
theorem amount_send (d : Fin 32) : (Rd (F := F) m ρ).amount (sendCell c t) 0 d = N := rfl
theorem amount_recv (d : Fin 32) : (Rd (F := F) m ρ).amount (recvCell c t) 0 d = N := rfl

theorem expect_bar : (Rd (F := F) m ρ).expect (barCell c) 0 = 31 := by
  unfold Schedule.expect Schedule.amountOf
  rw [duties_bar, Finset.sum_congr rfl fun d _ => amount_bar m ρ c d, Finset.sum_const, smul_eq_mul]
  decide
theorem expect_send (h : 1 ≤ t.val) : (Rd (F := F) m ρ).expect (sendCell c t) 0 = N := by
  unfold Schedule.expect Schedule.amountOf; rw [duties_send m ρ c t h, Finset.sum_singleton, amount_send]
theorem expect_recv (h : 1 ≤ t.val) : (Rd (F := F) m ρ).expect (recvCell c t) 0 = N := by
  unfold Schedule.expect Schedule.amountOf; rw [duties_recv m ρ c t h, Finset.sum_singleton, amount_recv]

theorem payload_bar (d : Fin 32) : (Rd (F := F) m ρ).payload (barCell c) 0 d = barPay c d := rfl
theorem payload_send (d : Fin 32) : (Rd (F := F) m ρ).payload (sendCell c t) 0 d = xblk m ρ c t := by
  show (if (sendS t).val < 36 then xblk m ρ c (Fin.ofNat 32 ((sendS t).val - 4)) else landed m ρ c (Fin.ofNat 32 ((sendS t).val - 36))) = _
  have e : (sendS t).val = 4 + t.val := rfl
  rw [e, if_pos (by omega), show Fin.ofNat 32 (4 + t.val - 4) = t from Fin.ext (by simp)]
theorem payload_recv (d : Fin 32) : (Rd (F := F) m ρ).payload (recvCell c t) 0 d = landed m ρ c t := by
  show (if (recvS t).val < 36 then xblk m ρ c (Fin.ofNat 32 ((recvS t).val - 4)) else landed m ρ c (Fin.ofNat 32 ((recvS t).val - 36))) = _
  have e : (recvS t).val = 36 + t.val := rfl
  rw [e, if_neg (by omega), show Fin.ofNat 32 (36 + t.val - 36) = t from Fin.ext (by simp)]

theorem rest_bar : bigSep ((Rd (F := F) m ρ).duties (barCell c) 0 \ ∅) (fun d => (Rd (F := F) m ρ).payload (barCell c) 0 d) = rng (barPay (F := F) c) 1 32 := by
  rw [Finset.sdiff_empty, duties_bar]; rfl
theorem rest_send (h : 1 ≤ t.val) : bigSep ((Rd (F := F) m ρ).duties (sendCell c t) 0 \ ∅) (fun d => (Rd (F := F) m ρ).payload (sendCell c t) 0 d) = xblk m ρ c t := by
  rw [Finset.sdiff_empty, duties_send m ρ c t h, bigSep_singleton, payload_send]
theorem rest_recv (h : 1 ≤ t.val) : bigSep ((Rd (F := F) m ρ).duties (recvCell c t) 0 \ ∅) (fun d => (Rd (F := F) m ρ).payload (recvCell c t) 0 d) = landed m ρ c t := by
  rw [Finset.sdiff_empty, duties_recv m ρ c t h, bigSep_singleton, payload_recv]
end Sched

/-! ## What each device owes, and the levels -/

/-- The credits of the copies `n, …, 31`. -/
def Orecv (c : Dev nD) (n : ℕ) : CellTallies nD τ sig Unit := ∑ t ∈ stretch 32 n 32, tallyAt (recvCell (c + t : Fin 32) t) () N
/-- Those of all copies, and the signals `n, …, 31`. -/
def Osig (c : Dev nD) (n : ℕ) : CellTallies nD τ sig Unit := Orecv c 1 + ∑ t ∈ stretch 32 n 32, tallyAt (barCell (c + t : Fin 32)) () 1

theorem sum_stretch {M : Type} [AddCommMonoid M] {n : ℕ} (f : Fin n → M) (i : Fin n) :
    ∑ t ∈ stretch n i.val n, f t = ∑ t ∈ stretch n (i.val + 1) n, f t + f i := by
  rw [show stretch n i.val n = insert i (stretch n (i.val + 1) n) from by
    ext j; simp only [stretch, Finset.mem_insert, Finset.mem_filter, Finset.mem_univ, true_and, Fin.ext_iff]; omega,
    Finset.sum_insert (by simp only [stretch, Finset.mem_filter, Finset.mem_univ, true_and]; omega), add_comm]

theorem Osig_peel (c : Dev nD) (t : Fin 32) : Osig c t.val = Osig c (t.val + 1) + tallyAt (barCell (c + t : Fin 32)) () 1 := by
  unfold Osig; rw [sum_stretch, add_assoc]
theorem Orecv_peel (c : Dev nD) (t : Fin 32) : Orecv c t.val = Orecv c (t.val + 1) + tallyAt (recvCell (c + t : Fin 32) t) () N := sum_stretch _ t
theorem Orecv_end (c : Dev nD) : Orecv c 32 = 0 := Finset.sum_eq_zero fun t ht => by
  simp only [stretch, Finset.mem_filter, Finset.mem_univ, true_and] at ht; omega
theorem Osig_end (c : Dev nD) : Osig c 32 = Orecv c 1 := by
  unfold Osig
  rw [Finset.sum_eq_zero fun t ht => by simp only [stretch, Finset.mem_filter, Finset.mem_univ, true_and] at ht; omega]
  exact add_zero _

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if 36 ≤ q.val ∧ q.val < 68 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (t : Fin 32) (u : Unit) : lv (recvCell c t) u = 2 :=
  if_pos ⟨show 36 ≤ 36 + t.val by omega, show 36 + t.val < 68 by omega⟩

theorem sum_tally_pos {ι : Type} (S : Finset ι) (f : ι → GSem nD τ sig) (k : ℕ) (g : GSem nD τ sig) (u : Unit)
    (h : 0 < (∑ t ∈ S, tallyAt (f t) () k : CellTallies nD τ sig Unit) g u) : ∃ t ∈ S, g = f t := by
  by_contra hn
  rw [Finset.sum_apply, Finsupp.finset_sum_apply, Finset.sum_eq_zero] at h
  · exact Nat.lt_irrefl 0 h
  · intro t ht
    rw [tallyAt_apply, if_neg fun h' => hn ⟨t, ht, h'.1⟩]

theorem Orecv_pos {c : Dev nD} {n : ℕ} {g : GSem nD τ sig} {u : Unit} (h : 0 < Orecv c n g u) : ∃ t : Fin 32, g = recvCell (c + t : Fin 32) t := by
  obtain ⟨t, _, e⟩ := sum_tally_pos _ (fun t : Fin 32 => recvCell (c + t : Fin 32) t) _ g u h; exact ⟨t, e⟩
theorem Osig_pos {c : Dev nD} {n : ℕ} {g : GSem nD τ sig} {u : Unit} (h : 0 < Osig c n g u) :
    (∃ t : Fin 32, g = recvCell (c + t : Fin 32) t) ∨ ∃ t : Fin 32, g = barCell (c + t : Fin 32) := by
  unfold Osig at h
  rw [Pi.add_apply, Finsupp.add_apply] at h
  rcases Nat.add_pos_iff_pos_or_pos.mp h with h | h
  · exact .inl (Orecv_pos h)
  · obtain ⟨t, _, e⟩ := sum_tally_pos _ (fun t : Fin 32 => barCell (c + t : Fin 32)) _ g u h; exact .inr ⟨t, e⟩

theorem mayWait_stage (c : Dev nD) (q : DmaSem sig) (hq : q.val < 36) (O : CellTallies nD τ sig Unit) (hO : O = Osig c 1 ∨ O = 0) :
    (levAts L lv : sProp (MM F)) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Osig_pos hg with ⟨t, rfl⟩ | ⟨t, rfl⟩ <;> exact Finset.mem_singleton_self _)
      (fun p hp => by rw [Finset.mem_singleton.mp hp]; dsimp only [lv]; rw [if_neg (by omega)])
      (fun g u hg => by
        rcases Osig_pos hg with ⟨t, rfl⟩ | ⟨t, rfl⟩
        · rw [lv_recv]; decide
        · exact Nat.one_pos)
  · rw [MayWait_zero]; iintro -; iempintro

/-- At its barrier wait a device owes receive credits only. -/
theorem mayWait_bar (c : Dev nD) : (levAts L lv : sProp (MM F)) ⊢ MayWait (c : Thread nD τ) (.reg barS) () (Orecv c 1) :=
  MayOwe.of_cut (L := L) (lev := lv) 1 (fun p hp => by rw [Finset.mem_singleton.mp hp, L_tc]; exact Finset.mem_singleton_self _)
    (fun g u hg => by obtain ⟨t, rfl⟩ := Orecv_pos hg; rw [L_tc]; exact Finset.mem_singleton_self _)
    (fun p hp => by rw [Finset.mem_singleton.mp hp]; exact le_refl 1)
    (fun g u hg => by obtain ⟨t, rfl⟩ := Orecv_pos hg; rw [lv_recv]; decide)

/-! ## The cells of the protocol and their records -/

/-- The barrier (`none`), the send (`false`) and the receive (`true`) semaphores. -/
def csem : Option (Bool × Fin 32) → SemLoc sig
  | none => .reg barS
  | some (false, t) => .dma (sendS t)
  | some (true, t) => .dma (recvS t)
abbrev kcell (ck : Dev nD × Option (Bool × Fin 32)) : GSem nD τ sig := ((ck.1 : Thread nD τ), csem ck.2)

/-- The cells' invariants, under the names `K` the launch allocated them at; that each has reached its first round; the levels. -/
def recs (K : Dev nD × Option (Bool × Fin 32) → ℕ) : sProp (MM F) :=
  iprop((bigSep Finset.univ fun ck => cellInv ER (Rd m ρ) (K ck) (kcell ck)) ∗ (bigSep Finset.univ fun ck => reached ER (kcell ck) 0) ∗ levAts L lv)

instance recs_persistent (K : Dev nD × Option (Bool × Fin 32) → ℕ) : BI.Persistent (recs m ρ K) := by unfold recs; infer_instance

theorem invs_at (K : Dev nD × Option (Bool × Fin 32) → ℕ) (ck : Dev nD × Option (Bool × Fin 32)) :
    (bigSep Finset.univ fun ck => (cellInv ER (Rd m ρ) (K ck) (kcell ck) : sProp (MM F))) ⊢ cellInv ER (Rd m ρ) (K ck) (kcell ck) :=
  bigSep_elim (Finset.mem_univ ck)
theorem reached_at (ck : Dev nD × Option (Bool × Fin 32)) :
    (bigSep Finset.univ fun ck : Dev nD × Option (Bool × Fin 32) => (reached ER (kcell ck) 0 : sProp (MM F))) ⊢ reached ER (kcell ck) 0 :=
  bigSep_elim (Finset.mem_univ ck)
theorem recs_inv (K : Dev nD × Option (Bool × Fin 32) → ℕ) (ck : Dev nD × Option (Bool × Fin 32)) : recs m ρ K ⊢ cellInv ER (Rd m ρ) (K ck) (kcell ck) := by
  unfold recs; iintro ⟨#H, -, -⟩; iapply (invs_at m ρ K ck); iexact H
theorem recs_reached (K : Dev nD × Option (Bool × Fin 32) → ℕ) (ck : Dev nD × Option (Bool × Fin 32)) : recs m ρ K ⊢ reached ER (kcell ck) 0 := by
  unfold recs; iintro ⟨-, #H, -⟩; iapply (reached_at (F := F) ck); iexact H
theorem recs_lev (K : Dev nD × Option (Bool × Fin 32) → ℕ) : recs m ρ K ⊢ levAts L lv := by
  unfold recs; iintro ⟨-, -, #H⟩; iexact H

end Cert.AllToAll

end
-- ==== Proof.Steps.lean ====
/-
# One step of the protocol at a time

Each lemma takes one effect of the kernel's body from the state before it to the state after it: a signal, the barrier
wait, a send, a receive wait, a send wait, and the fetches and waits of the weights' double buffer.
-/
module

public import proofs.«01_k».proof.Proof.Protocol

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

abbrev 𝒱₀ : Variants := Variants.none

/-- The triple's program side on device `c`. -/
abbrev WP (c : Dev nD) {α : Type} (p : Prog (TpuEff nD τ sig (Elt F) Λ₀ .tc) α) (Q : α → sProp (MM F)) : sProp (MM F) :=
  wp frame (wpE (defs₀ (F := F)) 𝒱₀ (c : Thread nD τ) none) Set.univ p Q

abbrev Names : Type := Dev nD × Option (Bool × Fin 32) → ℕ
variable (K : Names)

theorem add_neg32 : ∀ c t : Fin 32, c + t + -t = c := by decide
theorem add_sub32 : ∀ c t : Fin 32, c + t - t = c := by decide
theorem sub_add32 : ∀ c t : Fin 32, c - t + t = c := by decide
theorem neg_pos32 : ∀ t : Fin 32, 1 ≤ t.val → 1 ≤ (-t).val := by decide

/-! ## Signals and the barrier wait -/

/-- Signals `n, …, 31` are to come: their duty tokens, the columns they hand over, and what is owed. -/
def SigS (c : Dev nD) (n : ℕ) : sProp (MM F) :=
  iprop(rng (fun t : Fin 32 => iprop(dutyTok ER (barCell (c + t : Fin 32)) 0 (-t) ∗ slotAny c (-t))) n 32
    ∗ ∃ W, owes (c : Thread nD τ) (Osig c n) W)

theorem step_sig (c : Dev nD) (t : Fin 32) (h1 : 1 ≤ t.val) (n n' : ℕ) (hn : n = t.val) (hn' : n' = t.val + 1) (d : Dev nD) (hd : d = (c + t : Fin 32)) (R : sProp (MM F)) {α : Type} {Q : α → sProp (MM F)}
    {k : PUnit → Prog (TpuEff nD τ sig (Elt F) Λ₀ .tc) α} (k' : ℕ) (hk : k' = 1)
    (h : iprop(recs m ρ K ∗ SigS c n' ∗ R) ⊢ WP c (k ⟨⟩) Q) :
    iprop(recs m ρ K ∗ SigS c n ∗ R) ⊢ WP c (.op (.semSignal (d, .tc) barS k') k) Q := by
  subst hn hn' hd hk
  unfold SigS at *
  rw [rng_pop _ t 32 t.isLt, Osig_peel]
  iintro ⟨#Hr, ⟨⟨⟨Ht, Hs⟩, Hg⟩, ⟨%W, Ho⟩⟩, HR⟩
  iapply (Rounds.wp_signal 𝒱₀ ER (Rd m ρ) (c : Thread nD τ) none (dst := ((c + t : Fin 32) : Thread nD τ)) (κ := K ((c + t : Fin 32), none))
      (d := -t) (by rw [duties_bar]; simp only [stretch, Finset.mem_filter, Finset.mem_univ, true_and]; exact ⟨neg_pos32 t h1, Fin.isLt _⟩) (amount_bar m ρ (c + t : Fin 32) _) () (Osig c (t.val + 1)) rfl)
    $$ [Ho Ht Hs]
  · isplitr; · iapply (recs_inv m ρ K ((c + t : Fin 32), none)); iexact Hr
    isplitl [Ho]; · iexact Ho
    isplitl [Ht]; · iexact Ht
    isplitl [Hs]
    · rw [payload_bar]; unfold barPay; rw [add_neg32]; iexact Hs
    iapply (recs_reached m ρ K ((c + t : Fin 32), none)); iexact Hr
  iintro Ho
  iapply h
  isplitr; · iexact Hr
  isplitl [Hg Ho]
  · isplitl [Hg]; · iexact Hg
    iexists W; iexact Ho
  iexact HR

/-- The barrier wait: every other device's columns for this device's block. -/
theorem step_bar (c : Dev nD) (R : sProp (MM F)) {α : Type} {Q : α → sProp (MM F)}
    {k : PUnit → Prog (TpuEff nD τ sig (Elt F) Λ₀ .tc) α} (k' : ℕ) (hk : k' = 31)
    (h : iprop(recs m ρ K ∗ (rng (barPay c) 1 32 ∗ (∃ W, owes (c : Thread nD τ) (Orecv c 1) W) ∗ atPos ER (barCell c) 1 ∅ 0) ∗ R) ⊢ WP c (k ⟨⟩) Q) :
    iprop(recs m ρ K ∗ (SigS c 32 ∗ cred (tallyAt (barCell c) () 31) ∗ atPos ER (barCell c) 0 ∅ 0) ∗ R) ⊢ WP c (.op (.semWait barS k') k) Q := by
  subst hk
  unfold SigS
  rw [Osig_end]
  iintro ⟨#Hr, ⟨⟨-, ⟨%W, Ho⟩⟩, Hc, Ha⟩, HR⟩
  iapply (Rounds.wp_wait_rest_token 𝒱₀ ER (Rd m ρ) (c : Thread nD τ) none (κ := K (c, none))
      (wpE_semWait_eq 𝒱₀ (c : Thread nD τ) none Set.univ) (Set.mem_univ _) () (O := Orecv c 1) (W := W) (R := 0) (m := 0) (T := ∅)
      (by rw [Nat.zero_add, expect_bar])) $$ [Hc Ho Ha]
  · isplitr; · iapply (recs_inv m ρ K (c, none)); iexact Hr
    isplitl [Hc]; · iexact Hc
    isplitl [Ho]; · iexact Ho
    isplitr; · iapply (mayWait_bar c); iapply (recs_lev m ρ K); iexact Hr
    iexact Ha
  iintro ⟨Ho, Ha, -, Hp⟩
  ihave Hp' := (Entails.of_eq (rest_bar m ρ c)) $$ Hp
  iapply h
  isplitr; · iexact Hr
  isplitl [Hp' Ho Ha]
  · isplitl [Hp']; · iexact Hp'
    isplitl [Ho]; · iexists _; iexact Ho
    iexact Ha
  iexact HR

/-! ## Sends -/

/-- Sends `n, …, 31` are to come; of the others the device holds the credit its own send semaphore will bring. -/
def SendS (c : Dev nD) (n : ℕ) : sProp (MM F) :=
  iprop(rng (fun t : Fin 32 => iprop((dutyTok ER (sendCell c t) 0 0 ∗ dutyTok ER (recvCell (c + t : Fin 32) t) 0 0) ∗ slotAny (c + t : Fin 32) t ∗ xblk m ρ c t)) n 32
    ∗ rng (fun t : Fin 32 => cred (tallyAt (sendCell c t) () N)) 1 n ∗ ∃ W, owes (c : Thread nD τ) (Orecv c n) W)

abbrev xeB (off : Fin 2 → ℕ) (inb : ∀ a, off a + S128x128.size a ≤ S4096x128.size a) : Memref sig .tc .vmem S128x128 .fp8e4m3 :=
  xeM.slice (Rect.unit (s := S4096x128) off S128x128.size inb) (fun _ => rfl)
abbrev xfB (off : Fin 2 → ℕ) (inb : ∀ a, off a + S128x128.size a ≤ S128x4096.size a) : Memref sig .tc .vmem S128x128 .fp8e4m3 :=
  xfM.slice (Rect.unit (s := S128x4096) off S128x128.size inb) (fun _ => rfl)

/-- What the `t`-th copy of device `c` writes is what device `c + t` is to find. -/
theorem sent_eq (c : Dev nD) (t : Fin 32) (offe offf : Fin 2 → ℕ) (he : offe = ![128 * (c + t : Fin 32).val, 0]) (hf : offf = ![0, 128 * t.val]) (inbe inbf)
    (fd : Buf (Elt F) (xfL (c + t : Fin 32))) (i : S128x4096.Idx) (hi : i ∈ (xfB offf inbf).view.set) :
    (xfB offf inbf).view.write (Elt F) fd ((xeB offe inbe).view.read (Elt F) (x8 m ρ c)) Finset.univ i = gath m ρ (c + t : Fin 32) i := by
  subst he hf
  obtain ⟨j, -, rfl⟩ := Finset.mem_map.mp hi
  rw [View.write_emb_of_mem _ _ (Finset.mem_univ _)]
  show x8 m ρ c ((xeB _ inbe).view.emb j) = gath m ρ (c + t : Fin 32) ((xfB _ inbf).view.emb j)
  have j0 : (j 0).val < 128 := (j 0).isLt
  have j1 : (j 1).val < 128 := (j 1).isLt
  have e0 : (((xfB _ inbf).view.emb j) 0).val = (j 0).val := by show 0 + 1 * (j 0).val = _; omega
  have e1 : (((xfB _ inbf).view.emb j) 1).val = 128 * t.val + (j 1).val := by show 128 * t.val + 1 * (j 1).val = _; omega
  have f0 : (((xeB _ inbe).view.emb j) 0).val = 128 * (c + t : Fin 32).val + (j 0).val := by show 128 * (c + t : Fin 32).val + 1 * (j 0).val = _; omega
  have f1 : (((xeB _ inbe).view.emb j) 1).val = (j 1).val := by show 0 + 1 * (j 1).val = _; omega
  unfold gath
  have hd : (c + t : Fin 32) - (Fin.ofNat 32 ((((xfB _ inbf).view.emb j) 1).val / 128) : Fin 32) = c := by
    rw [e1, show (128 * t.val + (j 1).val) / 128 = t.val by omega, show Fin.ofNat 32 t.val = t from Fin.ext (by simp)]
    exact add_sub32 c t
  rw [hd]
  congr 1
  funext a
  refine Fin.ext ?_
  fin_cases a
  · show (((xeB _ inbe).view.emb j) 0).val = 128 * (c + t : Fin 32).val + (((xfB _ inbf).view.emb j) 0).val
    rw [f0, e0]
  · show (((xeB _ inbe).view.emb j) 1).val = (((xfB _ inbf).view.emb j) 1).val % 128
    rw [f1, e1]; omega

set_option maxHeartbeats 1000000 in
theorem step_send (c : Dev nD) (t : Fin 32) (h1 : 1 ≤ t.val) (n n' : ℕ) (hn : n = t.val) (hn' : n' = t.val + 1) (d : Dev nD) (hd : d = (c + t : Fin 32)) (R : sProp (MM F)) {α : Type} {Q : α → sProp (MM F)}
    (offe offf : Fin 2 → ℕ) (he : offe = ![128 * (c + t : Fin 32).val, 0]) (hf : offf = ![0, 128 * t.val]) (inbe inbf)
    (sS sR : DmaSem sig) (hs : sS = sendS t) (hr : sR = recvS t)
    {hsc : (xfB offf inbf : Memref sig (Dev.tc d : Thread nD τ).2.kind .vmem S128x128 .fp8e4m3).view.ref.isScScratch = false}
    {hsrc : (xeB offe inbe).view.WordExact} {hdst : (xfB offf inbf).view.WordExact}
    {hsem : DmaTarget.Typed .vmem (.dma sR) (.remote (Dev.tc d : Thread nD τ) (xfB offf inbf : Memref sig (Dev.tc d : Thread nD τ).2.kind .vmem S128x128 .fp8e4m3) (.dma sS) hsc)}
    {k : PUnit → Prog (TpuEff nD τ sig (Elt F) Λ₀ .tc) α}
    (h : iprop(recs m ρ K ∗ SendS m ρ c n' ∗ R) ⊢ WP c (k ⟨⟩) Q) :
    iprop(recs m ρ K ∗ SendS m ρ c n ∗ R) ⊢ WP c
      (.op (.enqueueDma (xeB offe inbe) (.remote (Dev.tc d : Thread nD τ) (xfB offf inbf) (.dma sS) hsc) (.dma sR) hsrc hdst hsem) k) Q := by
  subst hn hn' hd hs hr
  have hse := set_xe offe (c + t : Fin 32).val he inbe (fun _ => rfl)
  have hsf := set_xf offf t.val hf inbf (fun _ => rfl)
  unfold SendS at *
  rw [rng_pop _ t 32 t.isLt, Orecv_peel]
  unfold slotAny at *
  rw [rng_push _ 1 t h1] at h
  iintro ⟨#Hr, ⟨⟨⟨⟨Ht1, Ht2⟩, ⟨%fd, Hs⟩, Hx⟩, Hg⟩, Hcs, ⟨%W, Ho⟩⟩, HR⟩
  iapply (Rounds.wp_send_pointsTo 𝒱₀ ER (Rd m ρ) (c : Thread nD τ) none (κ₁ := K (c, some (false, t))) (κ₂ := K ((c + t : Fin 32), some (true, t)))
    (c' := ((c + t : Fin 32) : Thread nD τ)) (src := xeB offe inbe) (dst := (xfB offf inbf : Memref sig (Dev.tc (c + t : Fin 32) : Thread nD τ).2.kind .vmem S128x128 .fp8e4m3)) (q := fullShare) (fs := x8 m ρ c)
    (r₁ := 0) (r₂ := 0) (d₁ := 0) (d₂ := 0) (fd := fd)
    (by rw [duties_send m ρ c t h1]; exact Finset.mem_singleton_self _) (by rw [duties_recv m ρ _ t h1]; exact Finset.mem_singleton_self _)
    () () N rfl (amount_send m ρ c t 0) (amount_recv m ρ _ t 0) (Orecv c (t.val + 1)) rfl (W := W)
    (by rw [payload_send, hse]; exact BI.Entails.refl _)
    (by rw [payload_recv]; unfold landed
        rw [pointsTo_congr (sent_eq m ρ c t offe offf he hf inbe inbf fd), hsf])) $$ [Hs Hx Ho Ht1 Ht2]
  · isplitr; · iapply (recs_inv m ρ K (c, some (false, t))); iexact Hr
    isplitr; · iapply (recs_inv m ρ K ((c + t : Fin 32), some (true, t))); iexact Hr
    isplitl [Hx]; · rw [hse]; unfold xblk; iexact Hx
    isplitl [Hs]; · rw [hsf]; iexact Hs
    isplitl [Ho]; · iexact Ho
    isplitl [Ht1]; · iexact Ht1
    isplitr; · iapply (recs_reached m ρ K (c, some (false, t))); iexact Hr
    isplitl [Ht2]; · iexact Ht2
    iapply (recs_reached m ρ K ((c + t : Fin 32), some (true, t))); iexact Hr
  iintro ⟨Hc, Ho⟩
  iapply h
  isplitr; · iexact Hr
  isplitl [Hg Hcs Hc Ho]
  · isplitl [Hg]; · iexact Hg
    isplitl [Hcs Hc]
    · isplitl [Hcs] <;> iassumption
    iexists W; iexact Ho
  iexact HR

end Cert.AllToAll

end
-- ==== Proof.Steps2.lean ====
/-
# Steps after the sends: the gather's waits and the weights' double buffer
-/
module

public import proofs.«01_k».proof.Proof.Steps
public import Idealize.ShloMosaic.Lib.ValueLayout

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

variable (K : Names)

/-! ## Memory -/

abbrev wBlk (off : Fin 2 → ℕ) (inb : ∀ a, off a + S128x2048.size a ≤ S4096x2048.size a) : Memref sig .tc .hbm S128x2048 .f32 :=
  wM.slice (Rect.unit (s := S4096x2048) off S128x2048.size inb) (fun _ => rfl)
abbrev wbP (off : Fin 3 → ℕ) (inb : ∀ a, off a + S1x128x2048.size a ≤ S2x512x2048.size a) : Memref sig .tc .vmem S128x2048 .f32 :=
  (wbM.slice (Rect.unit (s := S2x512x2048) off S1x128x2048.size inb) (fun _ => rfl)).squeeze S128x2048 squeezes_S1x128x2048_S128x2048

/-- The credit of one block of weights. -/
abbrev NW : ℕ := (wbP ![0, 0, 0] inb_S2x512x2048_S1x128x2048_0_0_0).view.dmaCredit
theorem NW_pos : 0 < NW := View.dmaCredit_pos _ (by decide)

/-- The block of weights that goes with the block device `c - f` sends. -/
def wblk (c : Dev nD) (f : Fin 32) : sProp (MM F) := iprop(wL c ↦[rowsW (c - f : Fin 32).val]{fullShare} wArr m ρ c)
/-- The `p`-th piece of the double buffer: rows `128 (p % 4) …` of slot `p / 4`. -/
def piece (c : Dev nD) (p : ℕ) (f : Buf (Elt F) (wbL c)) : sProp (MM F) := iprop(wbL c ↦[rowsB (p / 4) (p % 4) (p % 4 + 1)]{fullShare} f)

abbrev wCell (c : Dev nD) (k : ℕ) : GSem nD τ sig := ((c : Thread nD τ), .dma (wS (Fin.ofNat 8 k)))

/-- A piece the device holds: the first eight at any contents, then the `k - 8`-th fetched. -/
def Own (c : Dev nD) (k : Fin 40) : sProp (MM F) :=
  iprop(semVal (wCell c k.val) 0 ∗ if k.val < 8 then iprop(∃ f, piece c (k.val % 8) f) else piece c (k.val % 8) (wcon m ρ c ((k.val - 8) / 4)))
/-- A fetch in flight. -/
def Fl (c : Dev nD) (f : Fin 32) : sProp (MM F) :=
  iprop(∃ D : sProp (MM F), ⌜D ⊢ iprop(piece c (f.val % 8) (wcon m ρ c (f.val / 4)) ∗ wblk m ρ c f)⌝
    ∗ Transfers.Flight EC (c : Thread nD τ) (.dma (wS (Fin.ofNat 8 f.val))) () NW D)

/-- `f` fetches issued, `w` of them waited for. -/
def WS (c : Dev nD) (f w : ℕ) : sProp (MM F) :=
  iprop(rng (wblk m ρ c) f 32 ∗ rng (wblk m ρ c) 0 w ∗ rng (Own m ρ c) f (w + 8) ∗ rng (Fl m ρ c) w f)

/-- `n` blocks received (the device's own among them). -/
def RecvS (c : Dev nD) (n : ℕ) : sProp (MM F) :=
  iprop(rng (fun t : Fin 32 => iprop(atPos ER (recvCell c t) 0 ∅ 0 ∗ cred (tallyAt (recvCell c t) () N))) n 32
    ∗ rng (fun t : Fin 32 => atPos ER (recvCell c t) 1 ∅ 0) 1 n ∗ (xfL c ↦[colsF 0 n]{fullShare} gath m ρ c))

/-- Sends `1, …, n - 1` waited for. -/
def SentS (c : Dev nD) (n : ℕ) : sProp (MM F) :=
  iprop(rng (fun t : Fin 32 => iprop(atPos ER (sendCell c t) 0 ∅ 0 ∗ cred (tallyAt (sendCell c t) () N))) n 32
    ∗ rng (fun t : Fin 32 => atPos ER (sendCell c t) 1 ∅ 0) 1 n ∗ rng (xblk m ρ c) 1 n)

/-- The state after the sends: `f` fetches issued, `r` blocks received, `w` fetches waited for, `q - 1` sends waited for. -/
def Mid (c : Dev nD) (R : sProp (MM F)) (f r w q : ℕ) : sProp (MM F) :=
  iprop(recs m ρ K ∗ RecvS m ρ c r ∗ WS m ρ c f w ∗ SentS m ρ c q ∗ (∃ W, owes (c : Thread nD τ) 0 W) ∗ R)

variable (c : Dev nD) (R : sProp (MM F)) {α : Type} {Q : α → sProp (MM F)}

/-! ## Waits of the gather -/

theorem landed_join (t : Fin 32) : iprop((xfL c ↦[colsF 0 t.val]{fullShare} gath m ρ c) ∗ landed m ρ c t) ⊢ (xfL c ↦[colsF 0 (t.val + 1)]{fullShare} gath m ρ c : sProp (MM F)) := by
  unfold landed
  rw [show colsF 0 (t.val + 1) = colsF 0 t.val ∪ colsF t.val (t.val + 1) from by
    ext i; simp only [colsF, Finset.mem_union, Finset.mem_filter, Finset.mem_univ, true_and]; omega]
  exact (pointsTo_union (Finset.disjoint_left.mpr fun i hi hj => by
    simp only [colsF, Finset.mem_filter, Finset.mem_univ, true_and] at hi hj; omega)).2

theorem step_recv (t : Fin 32) (h1 : 1 ≤ t.val) (f r r' w q : ℕ) (hn : r = t.val) (hn' : r' = t.val + 1) (sm : DmaSem sig) (hs : sm = recvS t)
    {sp sp' : Space} {s s' : Shape} {e e' : EltTy} {srcw : Memref sig .tc sp' s' e'} {dstw : Memref sig .tc sp s e}
    {hsrc : srcw.view.WordExact} {hdst : dstw.view.WordExact} (hN : dstw.view.dmaCredit = N)
    {k : PUnit → Prog (TpuEff nD τ sig (Elt F) Λ₀ .tc) α}
    (h : Mid m ρ K c R f r' w q ⊢ WP c (k ⟨⟩) Q) : Mid m ρ K c R f r w q ⊢ WP c (.op (.waitDma2 sm srcw dstw hsrc hdst) k) Q := by
  subst hn hn' hs
  unfold Mid RecvS at *
  rw [rng_pop _ t 32 t.isLt]
  rw [rng_push _ 1 t h1] at h
  iintro ⟨#Hr, ⟨⟨⟨Ha, Hc⟩, Hg⟩, Hd, Hx⟩, HW, HS, ⟨%W, Ho⟩, HR⟩
  iapply (Rounds.wp_wait_rest_token 𝒱₀ ER (Rd m ρ) (c : Thread nD τ) none (κ := K (c, some (true, t))) (sm := .dma (recvS t))
      (wpE_waitDma2_eq 𝒱₀ (c : Thread nD τ) none Set.univ) (Set.mem_univ _) () (O := 0) (W := W) (R := 0) (m := 0) (T := ∅)
      (by rw [Nat.zero_add, hN]; exact (expect_recv m ρ c t h1).symm)) $$ [Hc Ho Ha]
  · isplitr; · iapply (recs_inv m ρ K (c, some (true, t))); iexact Hr
    isplitl [Hc]; · rw [hN]; iexact Hc
    isplitl [Ho]; · iexact Ho
    isplitr; · rw [MayWait_zero]; iempintro
    iexact Ha
  iintro ⟨Ho, Ha, -, Hp⟩
  ihave Hp' := (Entails.of_eq (rest_recv m ρ c t h1)) $$ Hp
  iapply h
  isplitr; · iexact Hr
  isplitl [Hg Hd Ha Hx Hp']
  · isplitl [Hg]; · iexact Hg
    isplitl [Hd Ha]
    · isplitl [Hd] <;> iassumption
    iapply (landed_join m ρ c t)
    isplitl [Hx] <;> iassumption
  isplitl [HW]; · iexact HW
  isplitl [HS]; · iexact HS
  isplitl [Ho]; · iexists _; iexact Ho
  iexact HR

theorem step_sent (t : Fin 32) (h1 : 1 ≤ t.val) (f r w q q' : ℕ) (hn : q = t.val) (hn' : q' = t.val + 1) (sm : DmaSem sig) (hs : sm = sendS t)
    {sp sp' : Space} {s s' : Shape} {e e' : EltTy} {srcw : Memref sig .tc sp' s' e'} {dstw : Memref sig .tc sp s e}
    {hsrc : srcw.view.WordExact} {hdst : dstw.view.WordExact} (hN : dstw.view.dmaCredit = N)
    {k : PUnit → Prog (TpuEff nD τ sig (Elt F) Λ₀ .tc) α}
    (h : Mid m ρ K c R f r w q' ⊢ WP c (k ⟨⟩) Q) : Mid m ρ K c R f r w q ⊢ WP c (.op (.waitDma2 sm srcw dstw hsrc hdst) k) Q := by
  subst hn hn' hs
  unfold Mid SentS at *
  rw [rng_pop _ t 32 t.isLt]
  rw [rng_push _ 1 t h1, rng_push (xblk m ρ c) 1 t h1] at h
  iintro ⟨#Hr, HV, HW, ⟨⟨⟨Ha, Hc⟩, Hg⟩, Hd, Hx⟩, ⟨%W, Ho⟩, HR⟩
  iapply (Rounds.wp_wait_rest_token 𝒱₀ ER (Rd m ρ) (c : Thread nD τ) none (κ := K (c, some (false, t))) (sm := .dma (sendS t))
      (wpE_waitDma2_eq 𝒱₀ (c : Thread nD τ) none Set.univ) (Set.mem_univ _) () (O := 0) (W := W) (R := 0) (m := 0) (T := ∅)
      (by rw [Nat.zero_add, hN]; exact (expect_send m ρ c t h1).symm)) $$ [Hc Ho Ha]
  · isplitr; · iapply (recs_inv m ρ K (c, some (false, t))); iexact Hr
    isplitl [Hc]; · rw [hN]; iexact Hc
    isplitl [Ho]; · iexact Ho
    isplitr; · rw [MayWait_zero]; iempintro
    iexact Ha
  iintro ⟨Ho, Ha, -, Hp⟩
  ihave Hp' := (Entails.of_eq (rest_send m ρ c t h1)) $$ Hp
  iapply h
  isplitr; · iexact Hr
  isplitl [HV]; · iexact HV
  isplitl [HW]; · iexact HW
  isplitl [Hg Hd Ha Hx Hp']
  · isplitl [Hg]; · iexact Hg
    isplitl [Hd Ha]
    · isplitl [Hd] <;> iassumption
    isplitl [Hx] <;> iassumption
  isplitl [Ho]; · iexists _; iexact Ho
  iexact HR

/-! ## The weights' double buffer -/

theorem sub_val32 (c f : Fin 32) : (c - f : Fin 32).val = (c.val + 32 - f.val) % 32 := by
  rw [Fin.sub_def]; show (32 - f.val + c.val) % 32 = _; congr 1; omega

/-- Where an element of a piece lies in the double buffer. -/
theorem wbP_emb (off : Fin 3 → ℕ) (inb) (j : S128x2048.Idx) :
    (wbP off inb).view.emb j = (wbM.slice (Rect.unit (s := S2x512x2048) off S1x128x2048.size inb) (fun _ => rfl)).view.emb (ix3 (0 : Fin 1) (j 0) (j 1)) := by
  have hj : ∀ h : (⟨2, ![128, 2048]⟩ : Shape).numel = (⟨3, ![1, 128, 2048]⟩ : Shape).numel, Shape.reshapeEquiv h j = ix3 (0 : Fin 1) (j 0) (j 1) := fun h =>
    (congrArg (Shape.reshapeEquiv h) (ValueIdx.eq_ix2 j)).trans (ValueIdx.reshapeEquiv_ix2_1ab h (j 0) (j 1))
  exact congrArg (wbM.slice (Rect.unit (s := S2x512x2048) off S1x128x2048.size inb) (fun _ => rfl)).view.emb (hj (squeezes_S1x128x2048_S128x2048).numel_eq)

theorem wbP_emb1 (off : Fin 3 → ℕ) (inb) (j : S128x2048.Idx) : ((wbP off inb).view.emb j 1).val = off 1 + (j 0).val := by
  rw [wbP_emb]; show off 1 + 1 * (j 0).val = _; rw [Nat.one_mul]
theorem wbP_emb2 (off : Fin 3 → ℕ) (inb) (j : S128x2048.Idx) : ((wbP off inb).view.emb j 2).val = off 2 + (j 1).val := by
  rw [wbP_emb]; show off 2 + 1 * (j 1).val = _; rw [Nat.one_mul]
theorem wBlk_emb0 (off : Fin 2 → ℕ) (inb) (j : S128x2048.Idx) : ((wBlk off inb).view.emb j 0).val = off 0 + (j 0).val := by
  show off 0 + 1 * (j 0).val = _; rw [Nat.one_mul]
theorem wBlk_emb1 (off : Fin 2 → ℕ) (inb) (j : S128x2048.Idx) : ((wBlk off inb).view.emb j 1).val = off 1 + (j 1).val := by
  show off 1 + 1 * (j 1).val = _; rw [Nat.one_mul]

/-- What the `f`-th fetch writes is what the double buffer is to hold for its group. -/
theorem fetched_eq (f : Fin 32) (offw : Fin 2 → ℕ) (offb : Fin 3 → ℕ) (hw : offw = ![128 * (c - f : Fin 32).val, 0]) (hb : offb = ![f.val % 8 / 4, 128 * (f.val % 4), 0])
    (inbw inbb) (fd : Buf (Elt F) (wbL c)) (i : S2x512x2048.Idx) (hi : i ∈ (wbP offb inbb).view.set) :
    (wbP offb inbb).view.write (Elt F) fd ((wBlk offw inbw).view.read (Elt F) (wArr m ρ c)) Finset.univ i = wcon m ρ c (f.val / 4) i := by
  obtain ⟨j, -, rfl⟩ := Finset.mem_map.mp hi
  rw [View.write_emb_of_mem _ _ (Finset.mem_univ _)]
  have j0 : (j 0).val < 128 := (j 0).isLt
  have j1 : (j 1).val < 2048 := (j 1).isLt
  have hb1 : offb 1 = 128 * (f.val % 4) := by rw [hb]; rfl
  have hb2 : offb 2 = 0 := by rw [hb]; rfl
  have hw0 : offw 0 = 128 * (c - f : Fin 32).val := by rw [hw]; rfl
  have hw1 : offw 1 = 0 := by rw [hw]; rfl
  have e1 := wbP_emb1 offb inbb j
  have e2 := wbP_emb2 offb inbb j
  have f0 := wBlk_emb0 offw inbw j
  have f1 := wBlk_emb1 offw inbw j
  refine (View.read_apply _ _).trans ?_
  refine congrArg (wArr m ρ c) ?_
  generalize (wbP offb inbb).view.emb j = b at e1 e2 ⊢
  generalize (wBlk offw inbw).view.emb j = a at f0 f1 ⊢
  refine (ValueIdx.eq_ix2 a).trans ?_
  have hd : Fin.ofNat 32 (4 * (f.val / 4) + (b 1).val / 128) = f := Fin.ext (by
    show (4 * (f.val / 4) + (b 1).val / 128) % 32 = f.val
    rw [e1, hb1]; omega)
  refine congrArg₂ ix2 (Fin.ext ?_) (Fin.ext ?_)
  · show (a 0).val = 128 * (c - Fin.ofNat 32 (4 * (f.val / 4) + (b 1).val / 128) : Fin 32).val + (b 1).val % 128
    rw [hd, f0, hw0, e1, hb1]; omega
  · rw [f1, hw1, e2, hb2]

theorem own_any (k : Fin 40) : Own m ρ c k ⊢ iprop(semVal (wCell c k.val) 0 ∗ ∃ f, piece c (k.val % 8) f) := by
  unfold Own
  refine sep_mono_right ?_
  by_cases h : k.val < 8
  · rw [if_pos h]
  · rw [if_neg h]
    iintro Hp; iexists _; iexact Hp

theorem step_fetch (t : Fin 32) (f f' r w q : ℕ) (hn : f = t.val) (hn' : f' = t.val + 1) (hw : w ≤ t.val) (hw' : t.val < w + 8)
    (offw : Fin 2 → ℕ) (offb : Fin 3 → ℕ) (how : offw = ![128 * (c - t : Fin 32).val, 0]) (hob : offb = ![t.val % 8 / 4, 128 * (t.val % 4), 0])
    (inbw inbb) (sm : DmaSem sig) (hs : sm = wS (Fin.ofNat 8 t.val))
    {hsrc : (wBlk offw inbw).view.WordExact} {hdst : (wbP offb inbb).view.WordExact} {hsem : DmaTarget.Typed (nD := nD) (p := .tc) .hbm (.dma sm) (.here (wbP offb inbb))}
    {k : PUnit → Prog (TpuEff nD τ sig (Elt F) Λ₀ .tc) α}
    (h : Mid m ρ K c R f' r w q ⊢ WP c (k ⟨⟩) Q) :
    Mid m ρ K c R f r w q ⊢ WP c (.op (.enqueueDma (wBlk offw inbw) (.here (wbP offb inbb)) (.dma sm) hsrc hdst hsem) k) Q := by
  subst hn hn' hs
  have hsw := set_w offw (c - t : Fin 32).val how inbw (fun _ => rfl)
  have hsb := set_wb offb (t.val % 8 / 4) (t.val % 4) hob inbb (fun _ => rfl) squeezes_S1x128x2048_S128x2048
  have hk : t.val < 40 := by omega
  unfold Mid WS at *
  rw [rng_pop (wblk m ρ c) t 32 t.isLt]
  rw [show rng (Own m ρ c) t.val (w + 8) = iprop(Own m ρ c ⟨t.val, hk⟩ ∗ rng (Own m ρ c) (t.val + 1) (w + 8)) from rng_pop (Own m ρ c) ⟨t.val, hk⟩ (w + 8) hw']
  rw [rng_push (Fl m ρ c) w t hw] at h
  iintro ⟨#Hr, HV, ⟨⟨Hb, Hg⟩, Hd, ⟨Hown, Hog⟩, Hfl⟩, HS, Ho, HR⟩
  ihave Hown' := (own_any m ρ c ⟨t.val, hk⟩) $$ Hown
  icases Hown' with ⟨Hv, ⟨%fd, Hp⟩⟩
  iapply (Transfers.wp_dmaLocal EC 𝒱₀ (c : Thread nD τ) none (src := wBlk offw inbw) (dst := wbP offb inbb) (q := fullShare) (fs := wArr m ρ c) (fd := fd) () NW rfl NW_pos (Finset.Subset.refl _)) $$ [Hb Hp Hv]
  · isplitl [Hb]; · rw [hsw]; unfold wblk; iexact Hb
    isplitl [Hp]
    · rw [hsb]; unfold piece; rw [show t.val % 8 % 4 = t.val % 4 by omega]; iexact Hp
    iexact Hv
  iintro Hf
  iapply h
  isplitr; · iexact Hr
  isplitl [HV]; · iexact HV
  isplitl [Hg Hd Hog Hfl Hf]
  · isplitl [Hg]; · iexact Hg
    isplitl [Hd]; · iexact Hd
    isplitl [Hog]; · iexact Hog
    isplitl [Hfl]; · iexact Hfl
    unfold Fl
    iexists _
    isplitr
    rotate_left
    · iexact Hf
    · ipureintro
      unfold piece wblk
      rw [show t.val % 8 % 4 = t.val % 4 by omega, ← hsb, ← hsw]
      exact sep_mono_left (Entails.of_eq (pointsTo_congr (fetched_eq m ρ c t offw offb how hob inbw inbb fd)))
  isplitl [HS]; · iexact HS
  isplitl [Ho]; · iexact Ho
  iexact HR

theorem step_wwait (t : Fin 32) (f r w w' q : ℕ) (hn : w = t.val) (hn' : w' = t.val + 1) (hf : t.val < f) (hf' : f ≤ t.val + 8) (sm : DmaSem sig) (hs : sm = wS (Fin.ofNat 8 t.val))
    {sp sp' : Space} {s s' : Shape} {e e' : EltTy} {srcw : Memref sig .tc sp' s' e'} {dstw : Memref sig .tc sp s e}
    {hsrc : srcw.view.WordExact} {hdst : dstw.view.WordExact} (hN : dstw.view.dmaCredit = NW)
    {k : PUnit → Prog (TpuEff nD τ sig (Elt F) Λ₀ .tc) α}
    (h : Mid m ρ K c R f r w' q ⊢ WP c (k ⟨⟩) Q) : Mid m ρ K c R f r w q ⊢ WP c (.op (.waitDma2 sm srcw dstw hsrc hdst) k) Q := by
  subst hn hn' hs
  have hk : t.val + 8 < 40 := by omega
  unfold Mid WS at *
  rw [rng_pop (Fl m ρ c) t f hf]
  rw [rng_push (wblk m ρ c) 0 t (Nat.zero_le _), show t.val + 1 + 8 = (t.val + 8) + 1 by omega,
    show rng (Own m ρ c) f (t.val + 8 + 1) = iprop(rng (Own m ρ c) f (t.val + 8) ∗ Own m ρ c ⟨t.val + 8, hk⟩) from rng_push (Own m ρ c) f ⟨t.val + 8, hk⟩ hf'] at h
  iintro ⟨#Hr, HV, ⟨Hg, Hd, Hog, ⟨Hf1, Hfl⟩⟩, HS, ⟨%W, Ho⟩, HR⟩
  unfold Fl at *
  icases Hf1 with ⟨%D, %hD, Hf⟩
  iapply (Transfers.wp_waitLocal EC 𝒱₀ (c : Thread nD τ) none () (D := D) hN) $$ [Hf Ho]
  · isplitl [Hf] <;> iassumption
  iintro ⟨HD, Hv, Ho⟩
  ihave HD' := hD $$ HD
  icases HD' with ⟨Hp, Hb⟩
  iapply h
  isplitr; · iexact Hr
  isplitl [HV]; · iexact HV
  isplitl [Hg Hd Hog Hfl Hp Hb Hv]
  · isplitl [Hg]; · iexact Hg
    isplitl [Hd Hb]
    · isplitl [Hd] <;> iassumption
    isplitl [Hog Hp Hv]
    · isplitl [Hog]; · iexact Hog
      unfold Own
      isplitl [Hv]
      · rw [show wCell c (⟨t.val + 8, hk⟩ : Fin 40).val = wCell c t.val from by unfold wCell; rw [show Fin.ofNat 8 (t.val + 8) = Fin.ofNat 8 t.val from Fin.ext (by simp)]]; iexact Hv
      rw [if_neg (by show ¬ (t.val + 8 < 8); omega)]
      rw [show (t.val + 8) % 8 = t.val % 8 by omega, Nat.add_sub_cancel]; iexact Hp
    iexact Hfl
  isplitl [HS]; · iexact HS
  isplitl [Ho]; · iexists _; iexact Ho
  iexact HR

end Cert.AllToAll

end
-- ==== Proof.Steps3.lean ====
/-
# The loads of the gather buffer and of the weights' double buffer
-/
module

public import proofs.«01_k».proof.Proof.Steps2

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

variable (K : Names)

/-! ## What the loads read -/

/-- The columns of group `g` of the gathered block. -/
def xv (c : Dev nD) (g : Fin 8) : Vec F S128x512 .fp8e4m3 := fun i =>
  gath m ρ c (ix2 (i 0) ⟨512 * g.val + (i 1).val, by have : (i 1).val < 512 := (i 1).isLt; omega⟩)
/-- The rows of group `g` of the weights. -/
def wv (c : Dev nD) (g : Fin 8) : Vec F S1x512x2048 .f32 := fun i =>
  wcon m ρ c g.val (ix3 (⟨g.val % 2, Nat.mod_lt _ (by decide)⟩ : Fin 2) (i 1) (i 2))

variable (c : Dev nD) (R : sProp (MM F)) {α : Type} {Q : α → sProp (MM F)}

theorem step_loadxf (g : Fin 8) (f r w q : ℕ) (hr : 4 * g.val + 4 ≤ r) (off : Fin 2 → ℕ) (ho : off = ![0, 512 * g.val])
    (inb : ∀ a, off a + S128x512.size a ≤ S128x4096.size a) {hl : (xfM : Memref sig .tc .vmem S128x4096 .fp8e4m3).view.LoadsAt (Rect.unit (s := S128x4096) off S128x512.size inb).toLoadRect}
    {k : Vec F S128x512 .fp8e4m3 → Prog (TpuEff nD τ sig (Elt F) Λ₀ .tc) α}
    (h : Mid m ρ K c R f r w q ⊢ WP c (k (xv m ρ c g)) Q) :
    Mid m ρ K c R f r w q ⊢ WP c (.op (.load xfM (Rect.unit (s := S128x4096) off S128x512.size inb).toLoadRect hl) k) Q := by
  have o0 : off 0 = 0 := by rw [ho]; rfl
  have o1 : off 1 = 512 * g.val := by rw [ho]; rfl
  have hS : ((xfM : Memref sig .tc .vmem S128x4096 .fp8e4m3).access (Rect.unit (s := S128x4096) off S128x512.size inb)).set ⊆ colsF 0 r := fun i hi => by
    obtain ⟨j, -, rfl⟩ := Finset.mem_map.mp hi
    have j1 : (j 1).val < 512 := (j 1).isLt
    refine Finset.mem_filter.mpr ⟨Finset.mem_univ _, ?_⟩
    have e : ((((xfM : Memref sig .tc .vmem S128x4096 .fp8e4m3).access (Rect.unit (s := S128x4096) off S128x512.size inb)).emb j) 1).val = 512 * g.val + (j 1).val := by
      show off 1 + 1 * (j 1).val = _; omega
    omega
  have hv : ((xfM : Memref sig .tc .vmem S128x4096 .fp8e4m3).access (Rect.unit (s := S128x4096) off S128x512.size inb)).read (Elt F) (gath m ρ c) = xv m ρ c g := by
    funext j
    refine (View.read_apply _ _).trans ?_
    refine congrArg (gath m ρ c) ((ValueIdx.eq_ix2 _).trans (congrArg₂ ix2 (Fin.ext ?_) (Fin.ext ?_)))
    · show off 0 + 1 * (j 0).val = (j 0).val; omega
    · show off 1 + 1 * (j 1).val = 512 * g.val + (j 1).val; omega
  rw [← hv] at h
  unfold Mid RecvS at *
  iintro ⟨#Hr, ⟨Ha, Hd, Hx⟩, HW, HS, Ho, HR⟩
  iapply (wp_load_rect 𝒱₀ (c : Thread nD τ) none Set.univ (m := xfM) hS) $$ Hx
  iintro Hx
  iapply h
  isplitr; · iexact Hr
  isplitl [Ha Hd Hx]
  · isplitl [Ha]; · iexact Ha
    isplitl [Hd] <;> iassumption
  isplitl [HW]; · iexact HW
  isplitl [HS]; · iexact HS
  isplitl [Ho]; · iexact Ho
  iexact HR

/-- The four pieces of a group are one slot of the double buffer. -/
theorem own_join (g : Fin 8) : rng (Own m ρ c) (4 * g.val + 8) (4 * g.val + 12)
    = iprop(rng (fun k : Fin 40 => semVal (wCell c k.val) 0) (4 * g.val + 8) (4 * g.val + 12) ∗ (wbL c ↦[rowsB (g.val % 2) 0 4]{fullShare} wcon m ρ c g.val)) := by
  have h1 : rng (Own m ρ c) (4 * g.val + 8) (4 * g.val + 12)
      = rng (fun k : Fin 40 => iprop(semVal (wCell c k.val) 0 ∗ (wbL c ↦[rowsB (g.val % 2) (k.val % 4) (k.val % 4 + 1)]{fullShare} wcon m ρ c g.val))) (4 * g.val + 8) (4 * g.val + 12) := by
    refine bigSep_congr fun k hk => ?_
    simp only [stretch, Finset.mem_filter, Finset.mem_univ, true_and] at hk
    unfold Own piece
    rw [if_neg (by omega), show k.val % 8 / 4 = g.val % 2 by omega, show k.val % 8 % 4 = k.val % 4 by omega, show (k.val - 8) / 4 = g.val by omega]
  rw [h1, rng_sep]
  congr 1
  unfold rng
  rw [← pointsTo_biUnion]
  · congr 1
    ext i
    simp only [stretch, rowsB, Finset.mem_biUnion, Finset.mem_filter, Finset.mem_univ, true_and]
    constructor
    · rintro ⟨k, hk, h⟩; omega
    · intro h
      have hg : g.val < 8 := g.isLt
      refine ⟨⟨4 * g.val + 8 + (i 1).val / 128, by omega⟩, ?_, ?_⟩
      · show _ ≤ 4 * g.val + 8 + (i 1).val / 128 ∧ 4 * g.val + 8 + (i 1).val / 128 < _; omega
      · show _ ∧ 128 * ((4 * g.val + 8 + (i 1).val / 128) % 4) ≤ _ ∧ _ < 128 * ((4 * g.val + 8 + (i 1).val / 128) % 4 + 1); omega
  · intro k hk k' hk' hne
    refine Finset.disjoint_left.mpr fun i hi hj => ?_
    simp only [stretch, rowsB, Finset.mem_filter, Finset.mem_univ, true_and] at *
    exact hne (Fin.ext (by omega))

theorem step_loadwb (g : Fin 8) (f r w q : ℕ) (hf : f ≤ 4 * g.val + 8) (hw : w = 4 * g.val + 4) (off : Fin 3 → ℕ) (ho : off = ![g.val % 2, 0, 0])
    (inb : ∀ a, off a + S1x512x2048.size a ≤ S2x512x2048.size a) {hl : (wbM : Memref sig .tc .vmem S2x512x2048 .f32).view.LoadsAt (Rect.unit (s := S2x512x2048) off S1x512x2048.size inb).toLoadRect}
    {k : Vec F S1x512x2048 .f32 → Prog (TpuEff nD τ sig (Elt F) Λ₀ .tc) α}
    (h : Mid m ρ K c R f r w q ⊢ WP c (k (wv m ρ c g)) Q) :
    Mid m ρ K c R f r w q ⊢ WP c (.op (.load wbM (Rect.unit (s := S2x512x2048) off S1x512x2048.size inb).toLoadRect hl) k) Q := by
  subst hw
  have o0 : off 0 = g.val % 2 := by rw [ho]; rfl
  have o1 : off 1 = 0 := by rw [ho]; rfl
  have o2 : off 2 = 0 := by rw [ho]; rfl
  have hS : ((wbM : Memref sig .tc .vmem S2x512x2048 .f32).access (Rect.unit (s := S2x512x2048) off S1x512x2048.size inb)).set ⊆ rowsB (g.val % 2) 0 4 := fun i hi => by
    obtain ⟨j, -, rfl⟩ := Finset.mem_map.mp hi
    have j0 : (j 0).val < 1 := (j 0).isLt
    have j1 : (j 1).val < 512 := (j 1).isLt
    refine Finset.mem_filter.mpr ⟨Finset.mem_univ _, ?_⟩
    have e0 : ((((wbM : Memref sig .tc .vmem S2x512x2048 .f32).access (Rect.unit (s := S2x512x2048) off S1x512x2048.size inb)).emb j) 0).val = g.val % 2 + (j 0).val := by
      show off 0 + 1 * (j 0).val = _; omega
    have e1 : ((((wbM : Memref sig .tc .vmem S2x512x2048 .f32).access (Rect.unit (s := S2x512x2048) off S1x512x2048.size inb)).emb j) 1).val = (j 1).val := by
      show off 1 + 1 * (j 1).val = _; omega
    omega
  have hv : ((wbM : Memref sig .tc .vmem S2x512x2048 .f32).access (Rect.unit (s := S2x512x2048) off S1x512x2048.size inb)).read (Elt F) (wcon m ρ c g.val) = wv m ρ c g := by
    funext j
    have j0 : (j 0).val < 1 := (j 0).isLt
    refine (View.read_apply _ _).trans ?_
    refine congrArg (wcon m ρ c g.val) ((ValueIdx.eq_ix3 _).trans (?_ : ix3 _ _ _ = ix3 _ _ _))
    congr 1
    · refine Fin.ext ?_; show off 0 + 1 * (j 0).val = g.val % 2; omega
    · refine Fin.ext ?_; show off 1 + 1 * (j 1).val = (j 1).val; omega
    · refine Fin.ext ?_; show off 2 + 1 * (j 2).val = (j 2).val; omega
  rw [← hv] at h
  unfold Mid WS at *
  rw [show 4 * g.val + 4 + 8 = 4 * g.val + 12 by omega, rng_split (Own m ρ c) f (4 * g.val + 8) (4 * g.val + 12) hf (by omega), own_join] at *
  iintro ⟨#Hr, HV, ⟨Hg, Hd, ⟨Hoa, Hos, Hb⟩, Hfl⟩, HS, Ho, HR⟩
  iapply (wp_load_rect 𝒱₀ (c : Thread nD τ) none Set.univ (m := wbM) hS) $$ Hb
  iintro Hb
  iapply h
  isplitr; · iexact Hr
  isplitl [HV]; · iexact HV
  isplitl [Hg Hd Hoa Hos Hb Hfl]
  · isplitl [Hg]; · iexact Hg
    isplitl [Hd]; · iexact Hd
    isplitl [Hoa Hos Hb]
    · isplitl [Hoa]; · iexact Hoa
      isplitl [Hos] <;> iassumption
    iexact Hfl
  isplitl [HS]; · iexact HS
  isplitl [Ho]; · iexact Ho
  iexact HR

end Cert.AllToAll

end
-- ==== Proof.Entry.lean ====
/-
# From the barrier to the sends: the cast, the device's own block
-/
module

public import proofs.«01_k».proof.Proof.Steps3

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

variable (K : Names)

theorem hz2 : (![0, 0] : Fin 2 → Nat) = fun _ => 0 := funext fun a => by fin_cases a <;> rfl

theorem add_sub_l32 : ∀ c x : Fin 32, c + (x - c) = x := by decide
theorem add_l_sub32 : ∀ c t : Fin 32, c + t - c = t := by decide

/-- The tokens of the duties device `c` pays by its copies. -/
def Tok (c : Dev nD) : sProp (MM F) :=
  rng (fun t : Fin 32 => iprop(dutyTok ER (sendCell c t) 0 0 ∗ dutyTok ER (recvCell (c + t : Fin 32) t) 0 0)) 1 32
def stgX (c : Dev nD) : sProp (MM F) := iprop(((c : Thread nD τ).loc cc0_stg0_0) ↦{fullShare} xstg m ρ c)
def xeAny (c : Dev nD) : sProp (MM F) := iprop(∃ f : Buf (Elt F) (xeL c), xeL c ↦{fullShare} f)

/-- The cast block, by the devices its parts go to. -/
theorem xe_blocks (c : Dev nD) : (iprop(xeL c ↦{fullShare} x8 m ρ c) : sProp (MM F)) = iprop(xblk m ρ c 0 ∗ rng (xblk m ρ c) 1 32) := by
  have h : (Finset.univ : Finset (Fin 32)).biUnion (fun t => rowsX (c + t : Fin 32).val) = Finset.univ := by
    ext i
    simp only [Finset.mem_biUnion, Finset.mem_univ, _root_.true_and, iff_true, rowsX, Finset.mem_filter]
    have hi : (i 0).val < 4096 := (i 0).isLt
    obtain ⟨b, hb⟩ : ∃ b : Fin 32, b.val = (i 0).val / 128 := ⟨⟨(i 0).val / 128, by omega⟩, rfl⟩
    refine ⟨(b - c : Fin 32), ?_⟩
    have hc : (c + (b - c : Fin 32) : Fin 32).val = b.val := congrArg Fin.val (add_sub_l32 c b)
    have h0 : (c + (b - c : Fin 32) : Fin 32).val * 128 = b.val * 128 := by rw [hc]
    refine ⟨?_, ?_⟩ <;> omega
  have h2 : rng (xblk m ρ c) 0 32 = iprop(xblk m ρ c 0 ∗ rng (xblk m ρ c) 1 32) := rng_pop (xblk m ρ c) (0 : Fin 32) 32 (by decide)
  rw [← h2, rng_full]
  show (iprop(xeL c ↦[Finset.univ]{fullShare} x8 m ρ c) : sProp (MM F)) = _
  rw [← h, pointsTo_biUnion]
  · rfl
  · intro t _ t' _ hne
    refine Finset.disjoint_left.mpr fun i hi hj => hne ?_
    simp only [rowsX, Finset.mem_filter, Finset.mem_univ, _root_.true_and] at hi hj
    have e : (c + t : Fin 32) = (c + t' : Fin 32) := Fin.ext (by omega)
    have := congrArg (fun x : Fin 32 => (x - c : Fin 32)) e
    simpa only [add_l_sub32] using this

/-- The device's own block, in the first slot of its gather buffer. -/
theorem own_eq (c : Dev nD) (off : Fin 2 → ℕ) (ho : off = ![128 * c.val, 0]) (inb) (inb0) (fd : Buf (Elt F) (xfL c)) (i : S128x4096.Idx) (hi : i ∈ colsF 0 1) :
    ((xfM : Memref sig .tc .vmem S128x4096 .fp8e4m3).access (Rect.unit (s := S128x4096) ![0, 0] S128x128.size inb0)).write (Elt F) fd
      (k0_pay2 (((xeM : Memref sig .tc .vmem S4096x128 .fp8e4m3).access (Rect.unit (s := S4096x128) off S128x128.size inb)).read (Elt F) (x8 m ρ c))) Finset.univ i
      = gath m ρ c i := by
  have o0 : off 0 = 128 * c.val := by rw [ho]; rfl
  have o1 : off 1 = 0 := by rw [ho]; rfl
  have hset : ((xfM : Memref sig .tc .vmem S128x4096 .fp8e4m3).access (Rect.unit (s := S128x4096) ![0, 0] S128x128.size inb0)).set = colsF 0 1 := set_xf ![0, 0] 0 rfl inb0 (fun _ => rfl)
  rw [← hset] at hi
  obtain ⟨j, -, rfl⟩ := Finset.mem_map.mp hi
  rw [View.write_emb_of_mem _ _ (Finset.mem_univ _)]
  have hp : ∀ v : Vec F S128x128 .fp8e4m3, k0_pay2 v = v := fun v => shapeCast_self _ _
  rw [hp]
  refine (cast_eq _ _).trans ((View.read_apply _ _).trans ?_)
  have j0 : (j 0).val < 128 := (j 0).isLt
  have j1 : (j 1).val < 128 := (j 1).isLt
  have e0 : (((xfM : Memref sig .tc .vmem S128x4096 .fp8e4m3).access (Rect.unit (s := S128x4096) ![0, 0] S128x128.size inb0)).emb j 0).val = (j 0).val := by
    show 0 + 1 * (j 0).val = _; omega
  have e1 : (((xfM : Memref sig .tc .vmem S128x4096 .fp8e4m3).access (Rect.unit (s := S128x4096) ![0, 0] S128x128.size inb0)).emb j 1).val = (j 1).val := by
    show 0 + 1 * (j 1).val = _; omega
  have f0 : (((xeM : Memref sig .tc .vmem S4096x128 .fp8e4m3).access (Rect.unit (s := S4096x128) off S128x128.size inb)).emb j 0).val = 128 * c.val + (j 0).val := by
    show off 0 + 1 * (j 0).val = _; omega
  have f1 : (((xeM : Memref sig .tc .vmem S4096x128 .fp8e4m3).access (Rect.unit (s := S4096x128) off S128x128.size inb)).emb j 1).val = (j 1).val := by
    show off 1 + 1 * (j 1).val = _; omega
  generalize ((xfM : Memref sig .tc .vmem S128x4096 .fp8e4m3).access (Rect.unit (s := S128x4096) ![0, 0] S128x128.size inb0)).emb j = b at e0 e1 ⊢
  generalize ((xeM : Memref sig .tc .vmem S4096x128 .fp8e4m3).access (Rect.unit (s := S4096x128) off S128x128.size inb)).emb j = a at f0 f1 ⊢
  have hd : (c - (Fin.ofNat 32 ((b 1).val / 128) : Fin 32) : Fin 32) = c := by
    rw [show (b 1).val / 128 = 0 by omega]; exact (by decide : ∀ c : Fin 32, c - Fin.ofNat 32 0 = c) c
  show x8 m ρ c a = x8 m ρ (c - (Fin.ofNat 32 ((b 1).val / 128) : Fin 32)) (ix2 _ _)
  rw [hd]
  refine congrArg (x8 m ρ c) ((ValueIdx.eq_ix2 a).trans (congrArg₂ ix2 (Fin.ext ?_) (Fin.ext ?_)))
  · show (a 0).val = 128 * c.val + (b 0).val; omega
  · show (a 1).val = (b 1).val % 128; omega

theorem sends_start (c : Dev nD) : iprop(Tok c ∗ rng (barPay c) 1 32 ∗ rng (xblk m ρ c) 1 32 ∗ (∃ W, owes (c : Thread nD τ) (Orecv c 1) W)) ⊢ SendS m ρ c 1 := by
  unfold SendS Tok
  rw [rng_empty _ 1 1 (le_refl 1), rng_sep (fun t : Fin 32 => iprop(dutyTok ER (sendCell c t) 0 0 ∗ dutyTok ER (recvCell (c + t : Fin 32) t) 0 0)), rng_sep (fun t : Fin 32 => slotAny (c + t : Fin 32) t)]
  iintro ⟨Ht, Hb, Hx, Ho⟩
  isplitl [Ht Hb Hx]
  · isplitl [Ht]; · iexact Ht
    isplitl [Hb]; · iexact Hb
    iexact Hx
  isplitr; · iempintro
  iexact Ho

variable (c : Dev nD) (R : sProp (MM F)) {α : Type} {Q : α → sProp (MM F)}

abbrev rX : Rect S4096x128 := Rect.unit (s := S4096x128) ![0, 0] S4096x128.size inb_S4096x128_S4096x128_0_0

theorem step_entry (off : Fin 2 → ℕ) (ho : off = ![128 * c.val, 0]) (inb)
    {h1} {h2} {h3} {h4} {h5} {h6} {h7} {h8}
    {k : PUnit → Prog (TpuEff nD τ sig (Elt F) Λ₀ .tc) α}
    (h : iprop(recs m ρ K ∗ SendS m ρ c 1 ∗ (stgX m ρ c ∗ (xfL c ↦[colsF 0 1]{fullShare} gath m ρ c) ∗ xblk m ρ c 0 ∗ atPos ER (barCell c) 1 ∅ 0 ∗ R)) ⊢ WP c (k ⟨⟩) Q) :
    iprop(recs m ρ K ∗ (rng (barPay c) 1 32 ∗ (∃ W, owes (c : Thread nD τ) (Orecv c 1) W) ∗ atPos ER (barCell c) 1 ∅ 0) ∗ (Tok c ∗ stgX m ρ c ∗ xeAny c ∗ slotAny c 0 ∗ R))
    ⊢ WP c (.op (.load (Memref.whole cc0_stg0_0 : Memref sig .tc .vmem S4096x128 .f32) (rX).toLoadRect h1) fun v128 : Vec F S4096x128 .f32 =>
        .op (.load xeM (rX).toLoadRect h2) fun _ =>
        .op (.store xeM rX (k0_pay1 v128) Finset.univ h3 h4) fun _ =>
        .op (.load xeM (Rect.unit (s := S4096x128) off S128x128.size inb).toLoadRect h5) fun v136 : Vec F S128x128 .fp8e4m3 =>
        .op (.load xfM (Rect.unit (s := S128x4096) ![0, 0] S128x128.size inb_S128x4096_S128x128_0_0).toLoadRect h6) fun _ =>
        .op (.store xfM (Rect.unit (s := S128x4096) ![0, 0] S128x128.size inb_S128x4096_S128x128_0_0) (k0_pay2 v136) Finset.univ h7 h8) k) Q := by
  have hset : ((xfM : Memref sig .tc .vmem S128x4096 .fp8e4m3).access (Rect.unit (s := S128x4096) ![0, 0] S128x128.size inb_S128x4096_S128x128_0_0)).set = colsF 0 1 := set_xf ![0, 0] 0 rfl inb_S128x4096_S128x128_0_0 (fun _ => rfl)
  unfold stgX xeAny slotAny Tok at *
  iintro ⟨#Hr, ⟨Hbar, Ho, Ha⟩, Ht, Hx, ⟨%fe, He⟩, ⟨%ff, Hf⟩, HR⟩
  iapply (wp_load 𝒱₀ (c : Thread nD τ) none Set.univ (m := (Memref.whole cc0_stg0_0 : Memref sig .tc .vmem S4096x128 .f32)) (Finset.subset_univ _)) $$ Hx; iintro Hx
  rw [show (Memref.whole cc0_stg0_0 : Memref sig .tc .vmem S4096x128 .f32).view.readAt (Elt F) (rX).toLoadRect (xstg m ρ c) = xstg m ρ c from Memref.readAt_unit_zero (Elt F) cc0_stg0_0 hz2 _ (xstg m ρ c)]
  iapply (wp_load 𝒱₀ (c : Thread nD τ) none Set.univ (m := xeM) (Finset.subset_univ _)) $$ He; iintro He
  iapply (wp_store 𝒱₀ (c : Thread nD τ) none Set.univ (m := xeM) (r := rX) (Mk := Finset.univ) (Finset.subset_univ _)) $$ He; iintro He
  rw [show ((xeM : Memref sig .tc .vmem S4096x128 .fp8e4m3).access rX).write (Elt F) fe (k0_pay1 (xstg m ρ c)) Finset.univ = x8 m ρ c from (Memref.write_access_unit_zero_univ (Elt F) cc0_scratch0 hz2 _ fe (k0_pay1 (xstg m ρ c))).trans rfl]
  iapply (wp_load_rect 𝒱₀ (c : Thread nD τ) none Set.univ (m := xeM) (r := Rect.unit (s := S4096x128) off S128x128.size inb) (Finset.subset_univ _)) $$ He; iintro He
  iapply (wp_load_rect 𝒱₀ (c : Thread nD τ) none Set.univ (m := xfM) (r := Rect.unit (s := S128x4096) ![0, 0] S128x128.size inb_S128x4096_S128x128_0_0) (by rw [hset]; exact Finset.Subset.refl _)) $$ Hf; iintro Hf
  iapply (wp_store 𝒱₀ (c : Thread nD τ) none Set.univ (m := xfM) (r := Rect.unit (s := S128x4096) ![0, 0] S128x128.size inb_S128x4096_S128x128_0_0) (Mk := Finset.univ) (by exact hset.le)) $$ Hf; iintro Hf
  ihave Hf' := (Entails.of_eq (pointsTo_congr (own_eq m ρ c off ho inb inb_S128x4096_S128x128_0_0 ff))) $$ Hf
  ihave He' := (Entails.of_eq (xe_blocks m ρ c)) $$ He
  icases He' with ⟨He0, Hes⟩
  iapply h
  isplitr; · iexact Hr
  isplitl [Hbar Ho Ht Hes]
  · iapply (sends_start m ρ c)
    unfold Tok
    isplitl [Ht]; · iexact Ht
    isplitl [Hbar]; · iexact Hbar
    isplitl [Hes]; · iexact Hes
    iexact Ho
  isplitl [Hx]; · iexact Hx
  isplitl [Hf']; · iexact Hf'
  isplitl [He0]; · iexact He0
  isplitl [Ha]; · iexact Ha
  iexact HR

/-- All copies sent. -/
theorem to_mid {p : Prog (TpuEff nD τ sig (Elt F) Λ₀ .tc) α}
    (h : Mid m ρ K c R 0 1 0 1 ⊢ WP c p Q) :
    iprop(recs m ρ K ∗ SendS m ρ c 32 ∗ (xfL c ↦[colsF 0 1]{fullShare} gath m ρ c)
      ∗ rng (fun t : Fin 32 => iprop(atPos ER (recvCell c t) 0 ∅ 0 ∗ cred (tallyAt (recvCell c t) () N))) 1 32
      ∗ rng (fun t : Fin 32 => atPos ER (sendCell c t) 0 ∅ 0) 1 32 ∗ WS m ρ c 0 0 ∗ R) ⊢ WP c p Q := by
  refine BIBase.Entails.trans ?_ h
  unfold Mid SendS RecvS SentS
  rw [rng_empty _ 32 32 (le_refl _), rng_empty _ 1 1 (le_refl _), rng_empty _ 1 1 (le_refl _), rng_empty _ 1 1 (le_refl _), rng_sep (fun t : Fin 32 => atPos ER (sendCell c t) 0 ∅ 0), Orecv_end]
  iintro ⟨#Hr, ⟨-, Hc, Ho⟩, Hf, Hv, Hs, HW, HR⟩
  isplitr; · iexact Hr
  isplitl [Hv Hf]
  · isplitl [Hv]; · iexact Hv
    isplitr; · iempintro
    iexact Hf
  isplitl [HW]; · iexact HW
  isplitl [Hs Hc]
  · isplitl [Hs Hc]
    · isplitl [Hs] <;> iassumption
    isplitr <;> iempintro
  isplitl [Ho]; · iexact Ho
  iexact HR

end Cert.AllToAll

end
-- ==== Proof.Out.lean ====
/-
# The last matrix product and the result
-/
module

public import proofs.«01_k».proof.Proof.Entry

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

theorem hz1 : (![0] : Fin 1 → Nat) = fun _ => 0 := funext fun a => by fin_cases a; rfl

/-- The two scale words, as device `c` stages them. -/
def sxstg (c : Dev nD) : Vec F S1 .f32 := (win0_1.blk (0 : Fin 1)).view.read (Elt F) ((s₀ m ρ).mem ((c : Thread nD τ).loc main_arg2))
def swstg (c : Dev nD) : Vec F S1 .f32 := (win0_2.blk (0 : Fin 1)).view.read (Elt F) ((s₀ m ρ).mem ((c : Thread nD τ).loc main_arg3))

/-- The accumulator after each group of four blocks. -/
def acc1 (c : Dev nD) : FVec F S128x2048 .f32 := k0_pay4 (k0_pay3 (F := F)) (xv m ρ c 0) (wv m ρ c 0)
def acc2 (c : Dev nD) : FVec F S128x2048 .f32 := k0_pay5 (acc1 m ρ c) (xv m ρ c 1) (wv m ρ c 1)
def acc3 (c : Dev nD) : FVec F S128x2048 .f32 := k0_pay6 (acc2 m ρ c) (xv m ρ c 2) (wv m ρ c 2)
def acc4 (c : Dev nD) : FVec F S128x2048 .f32 := k0_pay7 (acc3 m ρ c) (xv m ρ c 3) (wv m ρ c 3)
def acc5 (c : Dev nD) : FVec F S128x2048 .f32 := k0_pay8 (acc4 m ρ c) (xv m ρ c 4) (wv m ρ c 4)
def acc6 (c : Dev nD) : FVec F S128x2048 .f32 := k0_pay9 (acc5 m ρ c) (xv m ρ c 5) (wv m ρ c 5)
def acc7 (c : Dev nD) : FVec F S128x2048 .f32 := k0_pay11 (acc6 m ρ c) (k0_pay10 (xv m ρ c 6)) (wv m ρ c 6)
/-- The block of the result device `c` leaves. -/
def outv (c : Dev nD) : FVec F S128x2048 .f32 :=
  k0_pay12 (acc7 m ρ c) (xv m ρ c 7) (wv m ρ c 7) (sxstg m ρ c (Shape.Idx.first (numel1_S1.symm ▸ Nat.one_pos)))
    (swstg m ρ c (Shape.Idx.first (numel1_S1.symm ▸ Nat.one_pos)))

/-- What is held besides from the entry on. -/
def Held (c : Dev nD) : sProp (MM F) := iprop(stgX m ρ c ∗ xblk m ρ c 0 ∗ atPos ER (barCell c) 1 ∅ 0)
def stgS (c : Dev nD) : sProp (MM F) := iprop((((c : Thread nD τ).loc cc0_stg1_0) ↦{fullShare} sxstg m ρ c) ∗ (((c : Thread nD τ).loc cc0_stg2_0) ↦{fullShare} swstg m ρ c))
def outAny (c : Dev nD) : sProp (MM F) := iprop(∃ f : Buf (Elt F) ((c : Thread nD τ).loc cc0_stg3_0), ((c : Thread nD τ).loc cc0_stg3_0) ↦{fullShare} f)
def outIs (c : Dev nD) : sProp (MM F) := iprop(((c : Thread nD τ).loc cc0_stg3_0) ↦{fullShare} outv m ρ c)
/-- What waits untouched while the copies are sent. -/
def Later (c : Dev nD) (R : sProp (MM F)) : sProp (MM F) :=
  iprop(rng (fun t : Fin 32 => iprop(atPos ER (recvCell c t) 0 ∅ 0 ∗ cred (tallyAt (recvCell c t) () N))) 1 32
      ∗ rng (fun t : Fin 32 => atPos ER (sendCell c t) 0 ∅ 0) 1 32 ∗ WS m ρ c 0 0 ∗ (stgS m ρ c ∗ outAny c ∗ R))

variable (K : Names) (c : Dev nD) (R : sProp (MM F)) {α : Type} {Q : α → sProp (MM F)}

abbrev rO : Rect S128x2048 := Rect.unit (s := S128x2048) ![0, 0] S128x2048.size inb_S128x2048_S128x2048_0_0
abbrev r1 : Rect S1 := Rect.unit (s := S1) ![0] S1.size inb_S1_S1_0

/-- The state at the first copy and at the last. -/
abbrev Sending (n : ℕ) : sProp (MM F) :=
  iprop(recs m ρ K ∗ SendS m ρ c n ∗ (stgX m ρ c ∗ (xfL c ↦[colsF 0 1]{fullShare} gath m ρ c) ∗ xblk m ρ c 0 ∗ atPos ER (barCell c) 1 ∅ 0 ∗ Later m ρ c R))
abbrev Working (f r w q : ℕ) : sProp (MM F) := Mid m ρ K c iprop(Held m ρ c ∗ stgS m ρ c ∗ outAny c ∗ R) f r w q
abbrev Ending (q : ℕ) : sProp (MM F) := Mid m ρ K c iprop(Held m ρ c ∗ stgS m ρ c ∗ outIs m ρ c ∗ R) 32 32 32 q

theorem sends_end {p : Prog (TpuEff nD τ sig (Elt F) Λ₀ .tc) α} (h : Working m ρ K c R 0 1 0 1 ⊢ WP c p Q) :
    Sending m ρ K c R 32 ⊢ WP c p Q := by
  refine BIBase.Entails.trans ?_ (to_mid m ρ K c _ h)
  unfold Sending Later Held
  iintro ⟨#Hr, Hs, Hx, Hf, Hb, Ha, Hv, Hp, HW, HR⟩
  isplitr; · iexact Hr
  isplitl [Hs]; · iexact Hs
  isplitl [Hf]; · iexact Hf
  isplitl [Hv]; · iexact Hv
  isplitl [Hp]; · iexact Hp
  isplitl [HW]; · iexact HW
  isplitl [Hx Hb Ha]
  · isplitl [Hx]; · iexact Hx
    isplitl [Hb] <;> iassumption
  iexact HR

theorem step_out (f r w q : ℕ) {h1} {h2} {h3} {h4} {h5} (x : r1.shape.Idx) (hx : x = Shape.Idx.first (numel1_S1.symm ▸ Nat.one_pos))
    {k : PUnit → Prog (TpuEff nD τ sig (Elt F) Λ₀ .tc) α}
    (h : Mid m ρ K c iprop(Held m ρ c ∗ stgS m ρ c ∗ outIs m ρ c ∗ R) f r w q ⊢ WP c (k ⟨⟩) Q) :
    Working m ρ K c R f r w q
    ⊢ WP c (.op (.load (Memref.whole cc0_stg1_0 : Memref sig .tc .smem S1 .f32) (r1).toLoadRect h1) fun f1 : Vec F S1 .f32 =>
        .op (.load (Memref.whole cc0_stg2_0 : Memref sig .tc .smem S1 .f32) (r1).toLoadRect h2) fun f2 : Vec F S1 .f32 =>
        .op (.load (Memref.whole cc0_stg3_0 : Memref sig .tc .vmem S128x2048 .f32) (rO).toLoadRect h3) fun _ =>
        .op (.store (Memref.whole cc0_stg3_0 : Memref sig .tc .vmem S128x2048 .f32) rO (k0_pay12 (acc7 m ρ c) (xv m ρ c 7) (wv m ρ c 7) (f1 x) (f2 x)) Finset.univ h4 h5) k) Q := by
  subst hx
  unfold Working Mid stgS outAny outIs at *
  iintro ⟨#Hr, Hv, HW, HS, Ho, Hh, ⟨H1, H2⟩, ⟨%fo, H3⟩, HR⟩
  iapply (wp_load 𝒱₀ (c : Thread nD τ) none Set.univ (m := (Memref.whole cc0_stg1_0 : Memref sig .tc .smem S1 .f32)) (Finset.subset_univ _)) $$ H1; iintro H1
  rw [show (Memref.whole cc0_stg1_0 : Memref sig .tc .smem S1 .f32).view.readAt (Elt F) (r1).toLoadRect (sxstg m ρ c) = sxstg m ρ c from Memref.readAt_unit_zero (Elt F) cc0_stg1_0 hz1 _ (sxstg m ρ c)]
  iapply (wp_load 𝒱₀ (c : Thread nD τ) none Set.univ (m := (Memref.whole cc0_stg2_0 : Memref sig .tc .smem S1 .f32)) (Finset.subset_univ _)) $$ H2; iintro H2
  rw [show (Memref.whole cc0_stg2_0 : Memref sig .tc .smem S1 .f32).view.readAt (Elt F) (r1).toLoadRect (swstg m ρ c) = swstg m ρ c from Memref.readAt_unit_zero (Elt F) cc0_stg2_0 hz1 _ (swstg m ρ c)]
  iapply (wp_load 𝒱₀ (c : Thread nD τ) none Set.univ (m := (Memref.whole cc0_stg3_0 : Memref sig .tc .vmem S128x2048 .f32)) (Finset.subset_univ _)) $$ H3; iintro H3
  iapply (wp_store 𝒱₀ (c : Thread nD τ) none Set.univ (m := (Memref.whole cc0_stg3_0 : Memref sig .tc .vmem S128x2048 .f32)) (r := rO) (Mk := Finset.univ) (Finset.subset_univ _)) $$ H3; iintro H3
  have e : ((Memref.whole cc0_stg3_0 : Memref sig .tc .vmem S128x2048 .f32).access rO).write (Elt F) fo (outv m ρ c) Finset.univ = outv m ρ c := Memref.write_access_unit_zero_univ (Elt F) cc0_stg3_0 hz2 _ fo (outv m ρ c)
  ihave H3' := (Entails.of_eq (congrArg (fun z => (iprop(((c : Thread nD τ).loc cc0_stg3_0) ↦{fullShare} z) : sProp (MM F))) e)) $$ [H3]
  · iexact H3
  iapply h
  isplitr; · iexact Hr
  isplitl [Hv]; · iexact Hv
  isplitl [HW]; · iexact HW
  isplitl [HS]; · iexact HS
  isplitl [Ho]; · iexact Ho
  isplitl [Hh]; · iexact Hh
  isplitl [H1 H2]; · isplitl [H1] <;> iassumption
  isplitl [H3']; · iexact H3'
  iexact HR

theorem off3_how (c t : Fin 32) : k0_off3 c (BitVec.ofNat 32 t.val) = ![128 * (c - t : Fin 32).val, 0] := by
  rw [k0_off3_eq c t, sub_val32]
theorem off2_he (c : Fin 32) (n : ℕ) (h : n + 1 < 32) : k0_off2 c (BitVec.ofNat 32 (1 + n)) = ![128 * (c + (⟨n + 1, h⟩ : Fin 32) : Fin 32).val, 0] := by
  refine (k0_off2_eq c ⟨n, by omega⟩).trans ?_
  show ![128 * ((c.val + n + 1) % 32), 0] = ![128 * ((c.val + (n + 1)) % 32), 0]
  rw [Nat.add_assoc]

end Cert.AllToAll

end
-- ==== Proof.BodyA.lean ====
/-
# The signals and the entry
-/
module

public import proofs.«01_k».proof.Proof.Out

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

variable (K : Names) (c : Dev nD) (R : sProp (MM F)) {α : Type} {Q : α → sProp (MM F)}

/-- What device `c` holds before its first signal, the signals' own part aside. -/
def Start (c : Dev nD) (R : sProp (MM F)) : sProp (MM F) :=
  iprop((cred (tallyAt (barCell c) () 31) ∗ atPos ER (barCell c) 0 ∅ 0) ∗ (Tok c ∗ stgX m ρ c ∗ xeAny c ∗ slotAny c 0 ∗ Later m ρ c R))

theorem start_bar : iprop(recs m ρ K ∗ SigS c 32 ∗ Start m ρ c R)
    ⊢ iprop(recs m ρ K ∗ (SigS c 32 ∗ cred (tallyAt (barCell c) () 31) ∗ atPos ER (barCell c) 0 ∅ 0) ∗ (Tok c ∗ stgX m ρ c ∗ xeAny c ∗ slotAny c 0 ∗ Later m ρ c R)) := by
  unfold Start
  iintro ⟨#Hr, Hs, ⟨Hc, Ha⟩, HR⟩
  isplitr; · iexact Hr
  isplitl [Hs Hc Ha]
  · isplitl [Hs]; · iexact Hs
    isplitl [Hc] <;> iassumption
  iexact HR

theorem start_dev {P : sProp (MM F)} {k : Dev nD → Prog (TpuEff nD τ sig (Elt F) Λ₀ .tc) α} (h : P ⊢ WP c (k c) Q) :
    P ⊢ WP c (.op .deviceId k) Q := by
  unfold WP; rw [wp_deviceId]; exact h

theorem part1_run {kk : (Σ' (d0 : Dev nD) (v2 : BitVec 32) (v3 : Sems sig S_) (v24 : BitVec 32), BitVec 32) → Prog (TpuEff nD τ sig (Elt F) Λ₀ .tc) α}
    (h : ∀ w1 w3 w4 : BitVec 32, iprop(recs m ρ K ∗ SigS c 6 ∗ Start m ρ c R) ⊢ WP c (kk ⟨c, w1, (SemArray.scalar (sig.barrier 0 rfl)), w3, w4⟩) Q) :
    iprop(recs m ρ K ∗ SigS c 1 ∗ Start m ρ c R) ⊢ WP c (k0_part1 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 >>= kk) Q := by
  rw [k0_part1_eq_skeleton]
  unfold k0_part1_skel
  simp only [semSignalWord, semWaitWord, smemLoad, smemLoadElt, Prog.lift, Prog.bind_op, Prog.bind_ret, Prog.pure_eq_ret]
  refine start_dev c ?_
  refine step_sig m ρ K c (⟨1, by decide⟩ : Fin 32) (by decide) 1 2 rfl rfl _ (Fin.ext (k0_dev1_eq c)) _ _ rfl ?_
  refine step_sig m ρ K c (⟨2, by decide⟩ : Fin 32) (by decide) 2 3 rfl rfl _ (Fin.ext (k0_dev2_eq c)) _ _ rfl ?_
  refine step_sig m ρ K c (⟨3, by decide⟩ : Fin 32) (by decide) 3 4 rfl rfl _ (Fin.ext (k0_dev3_eq c)) _ _ rfl ?_
  refine step_sig m ρ K c (⟨4, by decide⟩ : Fin 32) (by decide) 4 5 rfl rfl _ (Fin.ext (k0_dev4_eq c)) _ _ rfl ?_
  refine step_sig m ρ K c (⟨5, by decide⟩ : Fin 32) (by decide) 5 6 rfl rfl _ (Fin.ext (k0_dev5_eq c)) _ _ rfl ?_
  exact h _ _ _

theorem part2_run (v2 : BitVec 32) (v24 : BitVec 32) (c32_i32_20 : BitVec 32) {kk : (Σ' (v48 : BitVec 32), BitVec 32) → Prog (TpuEff nD τ sig (Elt F) Λ₀ .tc) α}
    (h : ∀ w0 w1 : BitVec 32, iprop(recs m ρ K ∗ SigS c 12 ∗ Start m ρ c R) ⊢ WP c (kk ⟨w0, w1⟩) Q) :
    iprop(recs m ρ K ∗ SigS c 6 ∗ Start m ρ c R) ⊢ WP c (k0_part2 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 (SemArray.scalar (sig.barrier 0 rfl)) v24 c32_i32_20 >>= kk) Q := by
  rw [k0_part2_eq_skeleton]
  unfold k0_part2_skel
  simp only [semSignalWord, semWaitWord, smemLoad, smemLoadElt, Prog.lift, Prog.bind_op, Prog.bind_ret, Prog.pure_eq_ret]
  refine step_sig m ρ K c (⟨6, by decide⟩ : Fin 32) (by decide) 6 7 rfl rfl _ (Fin.ext (k0_dev6_eq c)) _ _ rfl ?_
  refine step_sig m ρ K c (⟨7, by decide⟩ : Fin 32) (by decide) 7 8 rfl rfl _ (Fin.ext (k0_dev7_eq c)) _ _ rfl ?_
  refine step_sig m ρ K c (⟨8, by decide⟩ : Fin 32) (by decide) 8 9 rfl rfl _ (Fin.ext (k0_dev8_eq c)) _ _ rfl ?_
  refine step_sig m ρ K c (⟨9, by decide⟩ : Fin 32) (by decide) 9 10 rfl rfl _ (Fin.ext (k0_dev9_eq c)) _ _ rfl ?_
  refine step_sig m ρ K c (⟨10, by decide⟩ : Fin 32) (by decide) 10 11 rfl rfl _ (Fin.ext (k0_dev10_eq c)) _ _ rfl ?_
  refine step_sig m ρ K c (⟨11, by decide⟩ : Fin 32) (by decide) 11 12 rfl rfl _ (Fin.ext (k0_dev11_eq c)) _ _ rfl ?_
  exact h _ _

theorem part3_run (v2 : BitVec 32) (v48 : BitVec 32) (c32_i32_44 : BitVec 32) {kk : (Σ' (v72 : BitVec 32), BitVec 32) → Prog (TpuEff nD τ sig (Elt F) Λ₀ .tc) α}
    (h : ∀ w0 w1 : BitVec 32, iprop(recs m ρ K ∗ SigS c 18 ∗ Start m ρ c R) ⊢ WP c (kk ⟨w0, w1⟩) Q) :
    iprop(recs m ρ K ∗ SigS c 12 ∗ Start m ρ c R) ⊢ WP c (k0_part3 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 (SemArray.scalar (sig.barrier 0 rfl)) v48 c32_i32_44 >>= kk) Q := by
  rw [k0_part3_eq_skeleton]
  unfold k0_part3_skel
  simp only [semSignalWord, semWaitWord, smemLoad, smemLoadElt, Prog.lift, Prog.bind_op, Prog.bind_ret, Prog.pure_eq_ret]
  refine step_sig m ρ K c (⟨12, by decide⟩ : Fin 32) (by decide) 12 13 rfl rfl _ (Fin.ext (k0_dev12_eq c)) _ _ rfl ?_
  refine step_sig m ρ K c (⟨13, by decide⟩ : Fin 32) (by decide) 13 14 rfl rfl _ (Fin.ext (k0_dev13_eq c)) _ _ rfl ?_
  refine step_sig m ρ K c (⟨14, by decide⟩ : Fin 32) (by decide) 14 15 rfl rfl _ (Fin.ext (k0_dev14_eq c)) _ _ rfl ?_
  refine step_sig m ρ K c (⟨15, by decide⟩ : Fin 32) (by decide) 15 16 rfl rfl _ (Fin.ext (k0_dev15_eq c)) _ _ rfl ?_
  refine step_sig m ρ K c (⟨16, by decide⟩ : Fin 32) (by decide) 16 17 rfl rfl _ (Fin.ext (k0_dev16_eq c)) _ _ rfl ?_
  refine step_sig m ρ K c (⟨17, by decide⟩ : Fin 32) (by decide) 17 18 rfl rfl _ (Fin.ext (k0_dev17_eq c)) _ _ rfl ?_
  exact h _ _

theorem part4_run (v2 : BitVec 32) (v72 : BitVec 32) (c32_i32_68 : BitVec 32) {kk : (Σ' (v96 : BitVec 32), BitVec 32) → Prog (TpuEff nD τ sig (Elt F) Λ₀ .tc) α}
    (h : ∀ w0 w1 : BitVec 32, iprop(recs m ρ K ∗ SigS c 24 ∗ Start m ρ c R) ⊢ WP c (kk ⟨w0, w1⟩) Q) :
    iprop(recs m ρ K ∗ SigS c 18 ∗ Start m ρ c R) ⊢ WP c (k0_part4 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 (SemArray.scalar (sig.barrier 0 rfl)) v72 c32_i32_68 >>= kk) Q := by
  rw [k0_part4_eq_skeleton]
  unfold k0_part4_skel
  simp only [semSignalWord, semWaitWord, smemLoad, smemLoadElt, Prog.lift, Prog.bind_op, Prog.bind_ret, Prog.pure_eq_ret]
  refine step_sig m ρ K c (⟨18, by decide⟩ : Fin 32) (by decide) 18 19 rfl rfl _ (Fin.ext (k0_dev18_eq c)) _ _ rfl ?_
  refine step_sig m ρ K c (⟨19, by decide⟩ : Fin 32) (by decide) 19 20 rfl rfl _ (Fin.ext (k0_dev19_eq c)) _ _ rfl ?_
  refine step_sig m ρ K c (⟨20, by decide⟩ : Fin 32) (by decide) 20 21 rfl rfl _ (Fin.ext (k0_dev20_eq c)) _ _ rfl ?_
  refine step_sig m ρ K c (⟨21, by decide⟩ : Fin 32) (by decide) 21 22 rfl rfl _ (Fin.ext (k0_dev21_eq c)) _ _ rfl ?_
  refine step_sig m ρ K c (⟨22, by decide⟩ : Fin 32) (by decide) 22 23 rfl rfl _ (Fin.ext (k0_dev22_eq c)) _ _ rfl ?_
  refine step_sig m ρ K c (⟨23, by decide⟩ : Fin 32) (by decide) 23 24 rfl rfl _ (Fin.ext (k0_dev23_eq c)) _ _ rfl ?_
  exact h _ _

theorem part5_run (v2 : BitVec 32) (v96 : BitVec 32) (c32_i32_92 : BitVec 32) {kk : (Σ' (v120 : BitVec 32), BitVec 32) → Prog (TpuEff nD τ sig (Elt F) Λ₀ .tc) α}
    (h : ∀ w0 w1 : BitVec 32, iprop(recs m ρ K ∗ SigS c 30 ∗ Start m ρ c R) ⊢ WP c (kk ⟨w0, w1⟩) Q) :
    iprop(recs m ρ K ∗ SigS c 24 ∗ Start m ρ c R) ⊢ WP c (k0_part5 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 (SemArray.scalar (sig.barrier 0 rfl)) v96 c32_i32_92 >>= kk) Q := by
  rw [k0_part5_eq_skeleton]
  unfold k0_part5_skel
  simp only [semSignalWord, semWaitWord, smemLoad, smemLoadElt, Prog.lift, Prog.bind_op, Prog.bind_ret, Prog.pure_eq_ret]
  refine step_sig m ρ K c (⟨24, by decide⟩ : Fin 32) (by decide) 24 25 rfl rfl _ (Fin.ext (k0_dev24_eq c)) _ _ rfl ?_
  refine step_sig m ρ K c (⟨25, by decide⟩ : Fin 32) (by decide) 25 26 rfl rfl _ (Fin.ext (k0_dev25_eq c)) _ _ rfl ?_
  refine step_sig m ρ K c (⟨26, by decide⟩ : Fin 32) (by decide) 26 27 rfl rfl _ (Fin.ext (k0_dev26_eq c)) _ _ rfl ?_
  refine step_sig m ρ K c (⟨27, by decide⟩ : Fin 32) (by decide) 27 28 rfl rfl _ (Fin.ext (k0_dev27_eq c)) _ _ rfl ?_
  refine step_sig m ρ K c (⟨28, by decide⟩ : Fin 32) (by decide) 28 29 rfl rfl _ (Fin.ext (k0_dev28_eq c)) _ _ rfl ?_
  refine step_sig m ρ K c (⟨29, by decide⟩ : Fin 32) (by decide) 29 30 rfl rfl _ (Fin.ext (k0_dev29_eq c)) _ _ rfl ?_
  exact h _ _

theorem part6_run (v2 : BitVec 32) (v120 : BitVec 32) (c32_i32_116 : BitVec 32) {kk : (PUnit) → Prog (TpuEff nD τ sig (Elt F) Λ₀ .tc) α}
    (h : Sending m ρ K c R 1 ⊢ WP c (kk ⟨⟩) Q) :
    iprop(recs m ρ K ∗ SigS c 30 ∗ Start m ρ c R) ⊢ WP c (k0_part6 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 (SemArray.scalar (sig.barrier 0 rfl)) v120 c32_i32_116 >>= kk) Q := by
  rw [k0_part6_eq_skeleton]
  unfold k0_part6_skel
  simp only [semSignalWord, semWaitWord, smemLoad, smemLoadElt, Prog.lift, Prog.bind_op, Prog.bind_ret, Prog.pure_eq_ret]
  refine step_sig m ρ K c (⟨30, by decide⟩ : Fin 32) (by decide) 30 31 rfl rfl _ (Fin.ext (k0_dev30_eq c)) _ _ rfl ?_
  refine step_sig m ρ K c (⟨31, by decide⟩ : Fin 32) (by decide) 31 32 rfl rfl _ (Fin.ext (k0_dev31_eq c)) _ _ rfl ?_
  refine BIBase.Entails.trans (start_bar m ρ K c R) (step_bar m ρ K c _ _ rfl ?_)
  refine step_entry m ρ K c _ _ (k0_off1_eq c) _ ?_
  exact h

end Cert.AllToAll

end
-- ==== Proof.BodyB.lean ====
/-
# The copies
-/
module

public import proofs.«01_k».proof.Proof.BodyA

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

variable (K : Names) (c : Dev nD) (R : sProp (MM F)) {α : Type} {Q : α → sProp (MM F)}

theorem part7_run (v2 : BitVec 32) {kk : (PUnit) → Prog (TpuEff nD τ sig (Elt F) Λ₀ .tc) α}
    (h : Sending m ρ K c R 4 ⊢ WP c (kk ⟨⟩) Q) :
    Sending m ρ K c R 1 ⊢ WP c (k0_part7 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part7_eq_skeleton]
  unfold k0_part7_skel
  simp only [semSignalWord, semWaitWord, smemLoad, smemLoadElt, Prog.lift, Prog.bind_op, Prog.bind_ret, Prog.pure_eq_ret]
  refine step_send m ρ K c (⟨1, by decide⟩ : Fin 32) (by decide) 1 2 rfl rfl _ (Fin.ext (k0_dev32_eq c)) _ _ _ (off2_he c 0 (by decide)) rfl _ _ _ _ rfl rfl ?_
  refine step_send m ρ K c (⟨2, by decide⟩ : Fin 32) (by decide) 2 3 rfl rfl _ (Fin.ext (k0_dev33_eq c)) _ _ _ (off2_he c 1 (by decide)) rfl _ _ _ _ rfl rfl ?_
  refine step_send m ρ K c (⟨3, by decide⟩ : Fin 32) (by decide) 3 4 rfl rfl _ (Fin.ext (k0_dev34_eq c)) _ _ _ (off2_he c 2 (by decide)) rfl _ _ _ _ rfl rfl ?_
  exact h

theorem part8_run (v2 : BitVec 32) {kk : (BitVec 32) → Prog (TpuEff nD τ sig (Elt F) Λ₀ .tc) α}
    (h : ∀ w0 : BitVec 32, Sending m ρ K c R 7 ⊢ WP c (kk w0) Q) :
    Sending m ρ K c R 4 ⊢ WP c (k0_part8 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part8_eq_skeleton]
  unfold k0_part8_skel
  simp only [semSignalWord, semWaitWord, smemLoad, smemLoadElt, Prog.lift, Prog.bind_op, Prog.bind_ret, Prog.pure_eq_ret]
  refine step_send m ρ K c (⟨4, by decide⟩ : Fin 32) (by decide) 4 5 rfl rfl _ (Fin.ext (k0_dev35_eq c)) _ _ _ (off2_he c 3 (by decide)) rfl _ _ _ _ rfl rfl ?_
  refine step_send m ρ K c (⟨5, by decide⟩ : Fin 32) (by decide) 5 6 rfl rfl _ (Fin.ext (k0_dev36_eq c)) _ _ _ (off2_he c 4 (by decide)) rfl _ _ _ _ rfl rfl ?_
  refine step_send m ρ K c (⟨6, by decide⟩ : Fin 32) (by decide) 6 7 rfl rfl _ (Fin.ext (k0_dev37_eq c)) _ _ _ (off2_he c 5 (by decide)) rfl _ _ _ _ rfl rfl ?_
  exact h _

theorem part9_run (v2 : BitVec 32) (v207 : BitVec 32) {kk : (PUnit) → Prog (TpuEff nD τ sig (Elt F) Λ₀ .tc) α}
    (h : Sending m ρ K c R 10 ⊢ WP c (kk ⟨⟩) Q) :
    Sending m ρ K c R 7 ⊢ WP c (k0_part9 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v207 >>= kk) Q := by
  rw [k0_part9_eq_skeleton]
  unfold k0_part9_skel
  simp only [semSignalWord, semWaitWord, smemLoad, smemLoadElt, Prog.lift, Prog.bind_op, Prog.bind_ret, Prog.pure_eq_ret]
  refine step_send m ρ K c (⟨7, by decide⟩ : Fin 32) (by decide) 7 8 rfl rfl _ (Fin.ext (k0_dev38_eq c)) _ _ _ (off2_he c 6 (by decide)) rfl _ _ _ _ rfl rfl ?_
  refine step_send m ρ K c (⟨8, by decide⟩ : Fin 32) (by decide) 8 9 rfl rfl _ (Fin.ext (k0_dev39_eq c)) _ _ _ (off2_he c 7 (by decide)) rfl _ _ _ _ rfl rfl ?_
  refine step_send m ρ K c (⟨9, by decide⟩ : Fin 32) (by decide) 9 10 rfl rfl _ (Fin.ext (k0_dev40_eq c)) _ _ _ (off2_he c 8 (by decide)) rfl _ _ _ _ rfl rfl ?_
  exact h

theorem part10_run (v2 : BitVec 32) {kk : (PUnit) → Prog (TpuEff nD τ sig (Elt F) Λ₀ .tc) α}
    (h : Sending m ρ K c R 12 ⊢ WP c (kk ⟨⟩) Q) :
    Sending m ρ K c R 10 ⊢ WP c (k0_part10 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part10_eq_skeleton]
  unfold k0_part10_skel
  simp only [semSignalWord, semWaitWord, smemLoad, smemLoadElt, Prog.lift, Prog.bind_op, Prog.bind_ret, Prog.pure_eq_ret]
  refine step_send m ρ K c (⟨10, by decide⟩ : Fin 32) (by decide) 10 11 rfl rfl _ (Fin.ext (k0_dev41_eq c)) _ _ _ (off2_he c 9 (by decide)) rfl _ _ _ _ rfl rfl ?_
  refine step_send m ρ K c (⟨11, by decide⟩ : Fin 32) (by decide) 11 12 rfl rfl _ (Fin.ext (k0_dev42_eq c)) _ _ _ (off2_he c 10 (by decide)) rfl _ _ _ _ rfl rfl ?_
  exact h

theorem part11_run (v2 : BitVec 32) {kk : (BitVec 32) → Prog (TpuEff nD τ sig (Elt F) Λ₀ .tc) α}
    (h : ∀ w0 : BitVec 32, Sending m ρ K c R 15 ⊢ WP c (kk w0) Q) :
    Sending m ρ K c R 12 ⊢ WP c (k0_part11 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part11_eq_skeleton]
  unfold k0_part11_skel
  simp only [semSignalWord, semWaitWord, smemLoad, smemLoadElt, Prog.lift, Prog.bind_op, Prog.bind_ret, Prog.pure_eq_ret]
  refine step_send m ρ K c (⟨12, by decide⟩ : Fin 32) (by decide) 12 13 rfl rfl _ (Fin.ext (k0_dev43_eq c)) _ _ _ (off2_he c 11 (by decide)) rfl _ _ _ _ rfl rfl ?_
  refine step_send m ρ K c (⟨13, by decide⟩ : Fin 32) (by decide) 13 14 rfl rfl _ (Fin.ext (k0_dev44_eq c)) _ _ _ (off2_he c 12 (by decide)) rfl _ _ _ _ rfl rfl ?_
  refine step_send m ρ K c (⟨14, by decide⟩ : Fin 32) (by decide) 14 15 rfl rfl _ (Fin.ext (k0_dev45_eq c)) _ _ _ (off2_he c 13 (by decide)) rfl _ _ _ _ rfl rfl ?_
  exact h _

theorem part12_run (v2 : BitVec 32) (v297 : BitVec 32) {kk : (BitVec 32) → Prog (TpuEff nD τ sig (Elt F) Λ₀ .tc) α}
    (h : ∀ w0 : BitVec 32, Sending m ρ K c R 18 ⊢ WP c (kk w0) Q) :
    Sending m ρ K c R 15 ⊢ WP c (k0_part12 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v297 >>= kk) Q := by
  rw [k0_part12_eq_skeleton]
  unfold k0_part12_skel
  simp only [semSignalWord, semWaitWord, smemLoad, smemLoadElt, Prog.lift, Prog.bind_op, Prog.bind_ret, Prog.pure_eq_ret]
  refine step_send m ρ K c (⟨15, by decide⟩ : Fin 32) (by decide) 15 16 rfl rfl _ (Fin.ext (k0_dev46_eq c)) _ _ _ (off2_he c 14 (by decide)) rfl _ _ _ _ rfl rfl ?_
  refine step_send m ρ K c (⟨16, by decide⟩ : Fin 32) (by decide) 16 17 rfl rfl _ (Fin.ext (k0_dev47_eq c)) _ _ _ (off2_he c 15 (by decide)) rfl _ _ _ _ rfl rfl ?_
  refine step_send m ρ K c (⟨17, by decide⟩ : Fin 32) (by decide) 17 18 rfl rfl _ (Fin.ext (k0_dev48_eq c)) _ _ _ (off2_he c 16 (by decide)) rfl _ _ _ _ rfl rfl ?_
  exact h _

theorem part13_run (v2 : BitVec 32) (v328 : BitVec 32) {kk : (PUnit) → Prog (TpuEff nD τ sig (Elt F) Λ₀ .tc) α}
    (h : Sending m ρ K c R 20 ⊢ WP c (kk ⟨⟩) Q) :
    Sending m ρ K c R 18 ⊢ WP c (k0_part13 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v328 >>= kk) Q := by
  rw [k0_part13_eq_skeleton]
  unfold k0_part13_skel
  simp only [semSignalWord, semWaitWord, smemLoad, smemLoadElt, Prog.lift, Prog.bind_op, Prog.bind_ret, Prog.pure_eq_ret]
  refine step_send m ρ K c (⟨18, by decide⟩ : Fin 32) (by decide) 18 19 rfl rfl _ (Fin.ext (k0_dev49_eq c)) _ _ _ (off2_he c 17 (by decide)) rfl _ _ _ _ rfl rfl ?_
  refine step_send m ρ K c (⟨19, by decide⟩ : Fin 32) (by decide) 19 20 rfl rfl _ (Fin.ext (k0_dev50_eq c)) _ _ _ (off2_he c 18 (by decide)) rfl _ _ _ _ rfl rfl ?_
  exact h

theorem part14_run (v2 : BitVec 32) {kk : (PUnit) → Prog (TpuEff nD τ sig (Elt F) Λ₀ .tc) α}
    (h : Sending m ρ K c R 23 ⊢ WP c (kk ⟨⟩) Q) :
    Sending m ρ K c R 20 ⊢ WP c (k0_part14 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part14_eq_skeleton]
  unfold k0_part14_skel
  simp only [semSignalWord, semWaitWord, smemLoad, smemLoadElt, Prog.lift, Prog.bind_op, Prog.bind_ret, Prog.pure_eq_ret]
  refine step_send m ρ K c (⟨20, by decide⟩ : Fin 32) (by decide) 20 21 rfl rfl _ (Fin.ext (k0_dev51_eq c)) _ _ _ (off2_he c 19 (by decide)) rfl _ _ _ _ rfl rfl ?_
  refine step_send m ρ K c (⟨21, by decide⟩ : Fin 32) (by decide) 21 22 rfl rfl _ (Fin.ext (k0_dev52_eq c)) _ _ _ (off2_he c 20 (by decide)) rfl _ _ _ _ rfl rfl ?_
  refine step_send m ρ K c (⟨22, by decide⟩ : Fin 32) (by decide) 22 23 rfl rfl _ (Fin.ext (k0_dev53_eq c)) _ _ _ (off2_he c 21 (by decide)) rfl _ _ _ _ rfl rfl ?_
  exact h

theorem part15_run (v2 : BitVec 32) {kk : (BitVec 32) → Prog (TpuEff nD τ sig (Elt F) Λ₀ .tc) α}
    (h : ∀ w0 : BitVec 32, Sending m ρ K c R 26 ⊢ WP c (kk w0) Q) :
    Sending m ρ K c R 23 ⊢ WP c (k0_part15 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part15_eq_skeleton]
  unfold k0_part15_skel
  simp only [semSignalWord, semWaitWord, smemLoad, smemLoadElt, Prog.lift, Prog.bind_op, Prog.bind_ret, Prog.pure_eq_ret]
  refine step_send m ρ K c (⟨23, by decide⟩ : Fin 32) (by decide) 23 24 rfl rfl _ (Fin.ext (k0_dev54_eq c)) _ _ _ (off2_he c 22 (by decide)) rfl _ _ _ _ rfl rfl ?_
  refine step_send m ρ K c (⟨24, by decide⟩ : Fin 32) (by decide) 24 25 rfl rfl _ (Fin.ext (k0_dev55_eq c)) _ _ _ (off2_he c 23 (by decide)) rfl _ _ _ _ rfl rfl ?_
  refine step_send m ρ K c (⟨25, by decide⟩ : Fin 32) (by decide) 25 26 rfl rfl _ (Fin.ext (k0_dev56_eq c)) _ _ _ (off2_he c 24 (by decide)) rfl _ _ _ _ rfl rfl ?_
  exact h _

theorem part16_run (v2 : BitVec 32) (v416 : BitVec 32) {kk : (BitVec 32) → Prog (TpuEff nD τ sig (Elt F) Λ₀ .tc) α}
    (h : ∀ w0 : BitVec 32, Sending m ρ K c R 29 ⊢ WP c (kk w0) Q) :
    Sending m ρ K c R 26 ⊢ WP c (k0_part16 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v416 >>= kk) Q := by
  rw [k0_part16_eq_skeleton]
  unfold k0_part16_skel
  simp only [semSignalWord, semWaitWord, smemLoad, smemLoadElt, Prog.lift, Prog.bind_op, Prog.bind_ret, Prog.pure_eq_ret]
  refine step_send m ρ K c (⟨26, by decide⟩ : Fin 32) (by decide) 26 27 rfl rfl _ (Fin.ext (k0_dev57_eq c)) _ _ _ (off2_he c 25 (by decide)) rfl _ _ _ _ rfl rfl ?_
  refine step_send m ρ K c (⟨27, by decide⟩ : Fin 32) (by decide) 27 28 rfl rfl _ (Fin.ext (k0_dev58_eq c)) _ _ _ (off2_he c 26 (by decide)) rfl _ _ _ _ rfl rfl ?_
  refine step_send m ρ K c (⟨28, by decide⟩ : Fin 32) (by decide) 28 29 rfl rfl _ (Fin.ext (k0_dev59_eq c)) _ _ _ (off2_he c 27 (by decide)) rfl _ _ _ _ rfl rfl ?_
  exact h _

theorem part17_run (v2 : BitVec 32) (v448 : BitVec 32) {kk : (PUnit) → Prog (TpuEff nD τ sig (Elt F) Λ₀ .tc) α}
    (h : Sending m ρ K c R 31 ⊢ WP c (kk ⟨⟩) Q) :
    Sending m ρ K c R 29 ⊢ WP c (k0_part17 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v448 >>= kk) Q := by
  rw [k0_part17_eq_skeleton]
  unfold k0_part17_skel
  simp only [semSignalWord, semWaitWord, smemLoad, smemLoadElt, Prog.lift, Prog.bind_op, Prog.bind_ret, Prog.pure_eq_ret]
  refine step_send m ρ K c (⟨29, by decide⟩ : Fin 32) (by decide) 29 30 rfl rfl _ (Fin.ext (k0_dev60_eq c)) _ _ _ (off2_he c 28 (by decide)) rfl _ _ _ _ rfl rfl ?_
  refine step_send m ρ K c (⟨30, by decide⟩ : Fin 32) (by decide) 30 31 rfl rfl _ (Fin.ext (k0_dev61_eq c)) _ _ _ (off2_he c 29 (by decide)) rfl _ _ _ _ rfl rfl ?_
  exact h

theorem part18_run (v2 : BitVec 32) {kk : (PUnit) → Prog (TpuEff nD τ sig (Elt F) Λ₀ .tc) α}
    (h : Working m ρ K c R 2 1 0 1 ⊢ WP c (kk ⟨⟩) Q) :
    Sending m ρ K c R 31 ⊢ WP c (k0_part18 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part18_eq_skeleton]
  unfold k0_part18_skel
  simp only [semSignalWord, semWaitWord, smemLoad, smemLoadElt, Prog.lift, Prog.bind_op, Prog.bind_ret, Prog.pure_eq_ret]
  refine step_send m ρ K c (⟨31, by decide⟩ : Fin 32) (by decide) 31 32 rfl rfl _ (Fin.ext (k0_dev62_eq c)) _ _ _ (off2_he c 30 (by decide)) rfl _ _ _ _ rfl rfl ?_
  refine sends_end m ρ K c R ?_
  refine step_fetch m ρ K c _ (⟨0, by decide⟩ : Fin 32) 0 1 1 0 1 rfl rfl (by decide) (by decide) _ _ (by exact off3_how c (⟨0, by decide⟩ : Fin 32)) (by rfl) _ _ _ (by rfl) ?_
  refine step_fetch m ρ K c _ (⟨1, by decide⟩ : Fin 32) 1 2 1 0 1 rfl rfl (by decide) (by decide) _ _ (by exact off3_how c (⟨1, by decide⟩ : Fin 32)) (by rfl) _ _ _ (by rfl) ?_
  exact h

end Cert.AllToAll

end
-- ==== Proof.BodyC.lean ====
/-
# The first half of the products
-/
module

public import proofs.«01_k».proof.Proof.BodyB

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

variable (K : Names) (c : Dev nD) (R : sProp (MM F)) {α : Type} {Q : α → sProp (MM F)}

theorem part19_run (v2 : BitVec 32) {kk : (FVec F S128x2048 .f32) → Prog (TpuEff nD τ sig (Elt F) Λ₀ .tc) α}
    (h : Working m ρ K c R 5 1 0 1 ⊢ WP c (kk (k0_pay3 (F := F))) Q) :
    Working m ρ K c R 2 1 0 1 ⊢ WP c (k0_part19 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part19_eq_skeleton]
  unfold k0_part19_skel
  simp only [semSignalWord, semWaitWord, smemLoad, smemLoadElt, Prog.lift, Prog.bind_op, Prog.bind_ret, Prog.pure_eq_ret]
  refine step_fetch m ρ K c _ (⟨2, by decide⟩ : Fin 32) 2 3 1 0 1 rfl rfl (by decide) (by decide) _ _ (by exact off3_how c (⟨2, by decide⟩ : Fin 32)) (by rfl) _ _ _ (by rfl) ?_
  refine step_fetch m ρ K c _ (⟨3, by decide⟩ : Fin 32) 3 4 1 0 1 rfl rfl (by decide) (by decide) _ _ (by exact off3_how c (⟨3, by decide⟩ : Fin 32)) (by rfl) _ _ _ (by rfl) ?_
  refine step_fetch m ρ K c _ (⟨4, by decide⟩ : Fin 32) 4 5 1 0 1 rfl rfl (by decide) (by decide) _ _ (by exact off3_how c (⟨4, by decide⟩ : Fin 32)) (by rfl) _ _ _ (by rfl) ?_
  exact h

theorem part20_run (v2 : BitVec 32) {kk : (PUnit) → Prog (TpuEff nD τ sig (Elt F) Λ₀ .tc) α}
    (h : Working m ρ K c R 8 1 0 1 ⊢ WP c (kk ⟨⟩) Q) :
    Working m ρ K c R 5 1 0 1 ⊢ WP c (k0_part20 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part20_eq_skeleton]
  unfold k0_part20_skel
  simp only [semSignalWord, semWaitWord, smemLoad, smemLoadElt, Prog.lift, Prog.bind_op, Prog.bind_ret, Prog.pure_eq_ret]
  refine step_fetch m ρ K c _ (⟨5, by decide⟩ : Fin 32) 5 6 1 0 1 rfl rfl (by decide) (by decide) _ _ (by exact off3_how c (⟨5, by decide⟩ : Fin 32)) (by rfl) _ _ _ (by rfl) ?_
  refine step_fetch m ρ K c _ (⟨6, by decide⟩ : Fin 32) 6 7 1 0 1 rfl rfl (by decide) (by decide) _ _ (by exact off3_how c (⟨6, by decide⟩ : Fin 32)) (by rfl) _ _ _ (by rfl) ?_
  refine step_fetch m ρ K c _ (⟨7, by decide⟩ : Fin 32) 7 8 1 0 1 rfl rfl (by decide) (by decide) _ _ (by exact off3_how c (⟨7, by decide⟩ : Fin 32)) (by rfl) _ _ _ (by rfl) ?_
  exact h

theorem part21_run {kk : (PUnit) → Prog (TpuEff nD τ sig (Elt F) Λ₀ .tc) α}
    (h : Working m ρ K c R 8 4 2 1 ⊢ WP c (kk ⟨⟩) Q) :
    Working m ρ K c R 8 1 0 1 ⊢ WP c (k0_part21 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part21_eq_skeleton]
  unfold k0_part21_skel
  simp only [semSignalWord, semWaitWord, smemLoad, smemLoadElt, Prog.lift, Prog.bind_op, Prog.bind_ret, Prog.pure_eq_ret]
  refine step_recv m ρ K c _ (⟨1, by decide⟩ : Fin 32) (by decide) 8 1 2 0 1 rfl rfl _ (by rfl) (by rfl) ?_
  refine step_recv m ρ K c _ (⟨2, by decide⟩ : Fin 32) (by decide) 8 2 3 0 1 rfl rfl _ (by rfl) (by rfl) ?_
  refine step_recv m ρ K c _ (⟨3, by decide⟩ : Fin 32) (by decide) 8 3 4 0 1 rfl rfl _ (by rfl) (by rfl) ?_
  refine step_wwait m ρ K c _ (⟨0, by decide⟩ : Fin 32) 8 4 0 1 1 rfl rfl (by decide) (by decide) _ (by rfl) (by rfl) ?_
  refine step_wwait m ρ K c _ (⟨1, by decide⟩ : Fin 32) 8 4 1 2 1 rfl rfl (by decide) (by decide) _ (by rfl) (by rfl) ?_
  exact h

theorem part22_run (v2 : BitVec 32) (v517 : FVec F S128x2048 .f32) {kk : (Σ' (v598 : FVec F S128x2048 .f32) (v609 : BitVec 32), BitVec 32) → Prog (TpuEff nD τ sig (Elt F) Λ₀ .tc) α}
    (h : ∀ w1 w2 : BitVec 32, Working m ρ K c R 9 4 4 1 ⊢ WP c (kk ⟨k0_pay4 v517 (xv m ρ c (⟨0, by decide⟩ : Fin 8)) (wv m ρ c (⟨0, by decide⟩ : Fin 8)), w1, w2⟩) Q) :
    Working m ρ K c R 8 4 2 1 ⊢ WP c (k0_part22 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v517 >>= kk) Q := by
  rw [k0_part22_eq_skeleton]
  unfold k0_part22_skel
  simp only [semSignalWord, semWaitWord, smemLoad, smemLoadElt, Prog.lift, Prog.bind_op, Prog.bind_ret, Prog.pure_eq_ret]
  refine step_wwait m ρ K c _ (⟨2, by decide⟩ : Fin 32) 8 4 2 3 1 rfl rfl (by decide) (by decide) _ (by rfl) (by rfl) ?_
  refine step_wwait m ρ K c _ (⟨3, by decide⟩ : Fin 32) 8 4 3 4 1 rfl rfl (by decide) (by decide) _ (by rfl) (by rfl) ?_
  refine step_loadxf m ρ K c _ (⟨0, by decide⟩ : Fin 8) 8 4 4 1 (by decide) _ (by rfl) _ ?_
  refine step_loadwb m ρ K c _ (⟨0, by decide⟩ : Fin 8) 8 4 4 1 (by decide) rfl _ (by rfl) _ ?_
  refine step_fetch m ρ K c _ (⟨8, by decide⟩ : Fin 32) 8 9 4 4 1 rfl rfl (by decide) (by decide) _ _ (by exact off3_how c (⟨8, by decide⟩ : Fin 32)) (by rfl) _ _ _ (by rfl) ?_
  exact h _ _

theorem part23_run (v2 : BitVec 32) (v609 : BitVec 32) (c32_i32_560 : BitVec 32) {kk : (BitVec 32) → Prog (TpuEff nD τ sig (Elt F) Λ₀ .tc) α}
    (h : ∀ w0 : BitVec 32, Working m ρ K c R 12 4 4 1 ⊢ WP c (kk w0) Q) :
    Working m ρ K c R 9 4 4 1 ⊢ WP c (k0_part23 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v609 c32_i32_560 >>= kk) Q := by
  rw [k0_part23_eq_skeleton]
  unfold k0_part23_skel
  simp only [semSignalWord, semWaitWord, smemLoad, smemLoadElt, Prog.lift, Prog.bind_op, Prog.bind_ret, Prog.pure_eq_ret]
  refine step_fetch m ρ K c _ (⟨9, by decide⟩ : Fin 32) 9 10 4 4 1 rfl rfl (by decide) (by decide) _ _ (by exact off3_how c (⟨9, by decide⟩ : Fin 32)) (by rfl) _ _ _ (by rfl) ?_
  refine step_fetch m ρ K c _ (⟨10, by decide⟩ : Fin 32) 10 11 4 4 1 rfl rfl (by decide) (by decide) _ _ (by exact off3_how c (⟨10, by decide⟩ : Fin 32)) (by rfl) _ _ _ (by rfl) ?_
  refine step_fetch m ρ K c _ (⟨11, by decide⟩ : Fin 32) 11 12 4 4 1 rfl rfl (by decide) (by decide) _ _ (by exact off3_how c (⟨11, by decide⟩ : Fin 32)) (by rfl) _ _ _ (by rfl) ?_
  exact h _

theorem part24_run (v635 : BitVec 32) {kk : (PUnit) → Prog (TpuEff nD τ sig (Elt F) Λ₀ .tc) α}
    (h : Working m ρ K c R 12 8 4 1 ⊢ WP c (kk ⟨⟩) Q) :
    Working m ρ K c R 12 4 4 1 ⊢ WP c (k0_part24 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v635 >>= kk) Q := by
  rw [k0_part24_eq_skeleton]
  unfold k0_part24_skel
  simp only [semSignalWord, semWaitWord, smemLoad, smemLoadElt, Prog.lift, Prog.bind_op, Prog.bind_ret, Prog.pure_eq_ret]
  refine step_recv m ρ K c _ (⟨4, by decide⟩ : Fin 32) (by decide) 12 4 5 4 1 rfl rfl _ (by rfl) (by rfl) ?_
  refine step_recv m ρ K c _ (⟨5, by decide⟩ : Fin 32) (by decide) 12 5 6 4 1 rfl rfl _ (by rfl) (by rfl) ?_
  refine step_recv m ρ K c _ (⟨6, by decide⟩ : Fin 32) (by decide) 12 6 7 4 1 rfl rfl _ (by rfl) (by rfl) ?_
  refine step_recv m ρ K c _ (⟨7, by decide⟩ : Fin 32) (by decide) 12 7 8 4 1 rfl rfl _ (by rfl) (by rfl) ?_
  exact h

theorem part25_run (v598 : FVec F S128x2048 .f32) {kk : (FVec F S128x2048 .f32) → Prog (TpuEff nD τ sig (Elt F) Λ₀ .tc) α}
    (h : Working m ρ K c R 12 8 8 1 ⊢ WP c (kk (k0_pay5 v598 (xv m ρ c (⟨1, by decide⟩ : Fin 8)) (wv m ρ c (⟨1, by decide⟩ : Fin 8)))) Q) :
    Working m ρ K c R 12 8 4 1 ⊢ WP c (k0_part25 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v598 >>= kk) Q := by
  rw [k0_part25_eq_skeleton]
  unfold k0_part25_skel
  simp only [semSignalWord, semWaitWord, smemLoad, smemLoadElt, Prog.lift, Prog.bind_op, Prog.bind_ret, Prog.pure_eq_ret]
  refine step_wwait m ρ K c _ (⟨4, by decide⟩ : Fin 32) 12 8 4 5 1 rfl rfl (by decide) (by decide) _ (by rfl) (by rfl) ?_
  refine step_wwait m ρ K c _ (⟨5, by decide⟩ : Fin 32) 12 8 5 6 1 rfl rfl (by decide) (by decide) _ (by rfl) (by rfl) ?_
  refine step_wwait m ρ K c _ (⟨6, by decide⟩ : Fin 32) 12 8 6 7 1 rfl rfl (by decide) (by decide) _ (by rfl) (by rfl) ?_
  refine step_wwait m ρ K c _ (⟨7, by decide⟩ : Fin 32) 12 8 7 8 1 rfl rfl (by decide) (by decide) _ (by rfl) (by rfl) ?_
  refine step_loadxf m ρ K c _ (⟨1, by decide⟩ : Fin 8) 12 8 8 1 (by decide) _ (by rfl) _ ?_
  refine step_loadwb m ρ K c _ (⟨1, by decide⟩ : Fin 8) 12 8 8 1 (by decide) rfl _ (by rfl) _ ?_
  exact h

theorem part26_run (v2 : BitVec 32) {kk : (PUnit) → Prog (TpuEff nD τ sig (Elt F) Λ₀ .tc) α}
    (h : Working m ρ K c R 15 8 8 1 ⊢ WP c (kk ⟨⟩) Q) :
    Working m ρ K c R 12 8 8 1 ⊢ WP c (k0_part26 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part26_eq_skeleton]
  unfold k0_part26_skel
  simp only [semSignalWord, semWaitWord, smemLoad, smemLoadElt, Prog.lift, Prog.bind_op, Prog.bind_ret, Prog.pure_eq_ret]
  refine step_fetch m ρ K c _ (⟨12, by decide⟩ : Fin 32) 12 13 8 8 1 rfl rfl (by decide) (by decide) _ _ (by exact off3_how c (⟨12, by decide⟩ : Fin 32)) (by rfl) _ _ _ (by rfl) ?_
  refine step_fetch m ρ K c _ (⟨13, by decide⟩ : Fin 32) 13 14 8 8 1 rfl rfl (by decide) (by decide) _ _ (by exact off3_how c (⟨13, by decide⟩ : Fin 32)) (by rfl) _ _ _ (by rfl) ?_
  refine step_fetch m ρ K c _ (⟨14, by decide⟩ : Fin 32) 14 15 8 8 1 rfl rfl (by decide) (by decide) _ _ (by exact off3_how c (⟨14, by decide⟩ : Fin 32)) (by rfl) _ _ _ (by rfl) ?_
  exact h

theorem part27_run (v2 : BitVec 32) {kk : (PUnit) → Prog (TpuEff nD τ sig (Elt F) Λ₀ .tc) α}
    (h : Working m ρ K c R 16 10 8 1 ⊢ WP c (kk ⟨⟩) Q) :
    Working m ρ K c R 15 8 8 1 ⊢ WP c (k0_part27 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part27_eq_skeleton]
  unfold k0_part27_skel
  simp only [semSignalWord, semWaitWord, smemLoad, smemLoadElt, Prog.lift, Prog.bind_op, Prog.bind_ret, Prog.pure_eq_ret]
  refine step_fetch m ρ K c _ (⟨15, by decide⟩ : Fin 32) 15 16 8 8 1 rfl rfl (by decide) (by decide) _ _ (by exact off3_how c (⟨15, by decide⟩ : Fin 32)) (by rfl) _ _ _ (by rfl) ?_
  refine step_recv m ρ K c _ (⟨8, by decide⟩ : Fin 32) (by decide) 16 8 9 8 1 rfl rfl _ (by rfl) (by rfl) ?_
  refine step_recv m ρ K c _ (⟨9, by decide⟩ : Fin 32) (by decide) 16 9 10 8 1 rfl rfl _ (by rfl) (by rfl) ?_
  exact h

theorem part28_run {kk : (PUnit) → Prog (TpuEff nD τ sig (Elt F) Λ₀ .tc) α}
    (h : Working m ρ K c R 16 12 11 1 ⊢ WP c (kk ⟨⟩) Q) :
    Working m ρ K c R 16 10 8 1 ⊢ WP c (k0_part28 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part28_eq_skeleton]
  unfold k0_part28_skel
  simp only [semSignalWord, semWaitWord, smemLoad, smemLoadElt, Prog.lift, Prog.bind_op, Prog.bind_ret, Prog.pure_eq_ret]
  refine step_recv m ρ K c _ (⟨10, by decide⟩ : Fin 32) (by decide) 16 10 11 8 1 rfl rfl _ (by rfl) (by rfl) ?_
  refine step_recv m ρ K c _ (⟨11, by decide⟩ : Fin 32) (by decide) 16 11 12 8 1 rfl rfl _ (by rfl) (by rfl) ?_
  refine step_wwait m ρ K c _ (⟨8, by decide⟩ : Fin 32) 16 12 8 9 1 rfl rfl (by decide) (by decide) _ (by rfl) (by rfl) ?_
  refine step_wwait m ρ K c _ (⟨9, by decide⟩ : Fin 32) 16 12 9 10 1 rfl rfl (by decide) (by decide) _ (by rfl) (by rfl) ?_
  refine step_wwait m ρ K c _ (⟨10, by decide⟩ : Fin 32) 16 12 10 11 1 rfl rfl (by decide) (by decide) _ (by rfl) (by rfl) ?_
  exact h

theorem part29_run (v2 : BitVec 32) (v685 : FVec F S128x2048 .f32) {kk : (FVec F S128x2048 .f32) → Prog (TpuEff nD τ sig (Elt F) Λ₀ .tc) α}
    (h : Working m ρ K c R 17 12 12 1 ⊢ WP c (kk (k0_pay6 v685 (xv m ρ c (⟨2, by decide⟩ : Fin 8)) (wv m ρ c (⟨2, by decide⟩ : Fin 8)))) Q) :
    Working m ρ K c R 16 12 11 1 ⊢ WP c (k0_part29 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v685 >>= kk) Q := by
  rw [k0_part29_eq_skeleton]
  unfold k0_part29_skel
  simp only [semSignalWord, semWaitWord, smemLoad, smemLoadElt, Prog.lift, Prog.bind_op, Prog.bind_ret, Prog.pure_eq_ret]
  refine step_wwait m ρ K c _ (⟨11, by decide⟩ : Fin 32) 16 12 11 12 1 rfl rfl (by decide) (by decide) _ (by rfl) (by rfl) ?_
  refine step_loadxf m ρ K c _ (⟨2, by decide⟩ : Fin 8) 16 12 12 1 (by decide) _ (by rfl) _ ?_
  refine step_loadwb m ρ K c _ (⟨2, by decide⟩ : Fin 8) 16 12 12 1 (by decide) rfl _ (by rfl) _ ?_
  refine step_fetch m ρ K c _ (⟨16, by decide⟩ : Fin 32) 16 17 12 12 1 rfl rfl (by decide) (by decide) _ _ (by exact off3_how c (⟨16, by decide⟩ : Fin 32)) (by rfl) _ _ _ (by rfl) ?_
  exact h

theorem part30_run (v2 : BitVec 32) {kk : (PUnit) → Prog (TpuEff nD τ sig (Elt F) Λ₀ .tc) α}
    (h : Working m ρ K c R 20 12 12 1 ⊢ WP c (kk ⟨⟩) Q) :
    Working m ρ K c R 17 12 12 1 ⊢ WP c (k0_part30 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part30_eq_skeleton]
  unfold k0_part30_skel
  simp only [semSignalWord, semWaitWord, smemLoad, smemLoadElt, Prog.lift, Prog.bind_op, Prog.bind_ret, Prog.pure_eq_ret]
  refine step_fetch m ρ K c _ (⟨17, by decide⟩ : Fin 32) 17 18 12 12 1 rfl rfl (by decide) (by decide) _ _ (by exact off3_how c (⟨17, by decide⟩ : Fin 32)) (by rfl) _ _ _ (by rfl) ?_
  refine step_fetch m ρ K c _ (⟨18, by decide⟩ : Fin 32) 18 19 12 12 1 rfl rfl (by decide) (by decide) _ _ (by exact off3_how c (⟨18, by decide⟩ : Fin 32)) (by rfl) _ _ _ (by rfl) ?_
  refine step_fetch m ρ K c _ (⟨19, by decide⟩ : Fin 32) 19 20 12 12 1 rfl rfl (by decide) (by decide) _ _ (by exact off3_how c (⟨19, by decide⟩ : Fin 32)) (by rfl) _ _ _ (by rfl) ?_
  exact h

theorem part31_run {kk : (PUnit) → Prog (TpuEff nD τ sig (Elt F) Λ₀ .tc) α}
    (h : Working m ρ K c R 20 16 12 1 ⊢ WP c (kk ⟨⟩) Q) :
    Working m ρ K c R 20 12 12 1 ⊢ WP c (k0_part31 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part31_eq_skeleton]
  unfold k0_part31_skel
  simp only [semSignalWord, semWaitWord, smemLoad, smemLoadElt, Prog.lift, Prog.bind_op, Prog.bind_ret, Prog.pure_eq_ret]
  refine step_recv m ρ K c _ (⟨12, by decide⟩ : Fin 32) (by decide) 20 12 13 12 1 rfl rfl _ (by rfl) (by rfl) ?_
  refine step_recv m ρ K c _ (⟨13, by decide⟩ : Fin 32) (by decide) 20 13 14 12 1 rfl rfl _ (by rfl) (by rfl) ?_
  refine step_recv m ρ K c _ (⟨14, by decide⟩ : Fin 32) (by decide) 20 14 15 12 1 rfl rfl _ (by rfl) (by rfl) ?_
  refine step_recv m ρ K c _ (⟨15, by decide⟩ : Fin 32) (by decide) 20 15 16 12 1 rfl rfl _ (by rfl) (by rfl) ?_
  exact h

theorem part32_run (v2 : BitVec 32) (v772 : FVec F S128x2048 .f32) {kk : (FVec F S128x2048 .f32) → Prog (TpuEff nD τ sig (Elt F) Λ₀ .tc) α}
    (h : Working m ρ K c R 20 16 16 1 ⊢ WP c (kk (k0_pay7 v772 (xv m ρ c (⟨3, by decide⟩ : Fin 8)) (wv m ρ c (⟨3, by decide⟩ : Fin 8)))) Q) :
    Working m ρ K c R 20 16 12 1 ⊢ WP c (k0_part32 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v772 >>= kk) Q := by
  rw [k0_part32_eq_skeleton]
  unfold k0_part32_skel
  simp only [semSignalWord, semWaitWord, smemLoad, smemLoadElt, Prog.lift, Prog.bind_op, Prog.bind_ret, Prog.pure_eq_ret]
  refine step_wwait m ρ K c _ (⟨12, by decide⟩ : Fin 32) 20 16 12 13 1 rfl rfl (by decide) (by decide) _ (by rfl) (by rfl) ?_
  refine step_wwait m ρ K c _ (⟨13, by decide⟩ : Fin 32) 20 16 13 14 1 rfl rfl (by decide) (by decide) _ (by rfl) (by rfl) ?_
  refine step_wwait m ρ K c _ (⟨14, by decide⟩ : Fin 32) 20 16 14 15 1 rfl rfl (by decide) (by decide) _ (by rfl) (by rfl) ?_
  refine step_wwait m ρ K c _ (⟨15, by decide⟩ : Fin 32) 20 16 15 16 1 rfl rfl (by decide) (by decide) _ (by rfl) (by rfl) ?_
  refine step_loadxf m ρ K c _ (⟨3, by decide⟩ : Fin 8) 20 16 16 1 (by decide) _ (by rfl) _ ?_
  refine step_loadwb m ρ K c _ (⟨3, by decide⟩ : Fin 8) 20 16 16 1 (by decide) rfl _ (by rfl) _ ?_
  exact h

end Cert.AllToAll

end
-- ==== Proof.BodyD.lean ====
/-
# The second half of the products and the last waits
-/
module

public import proofs.«01_k».proof.Proof.BodyC

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

variable (K : Names) (c : Dev nD) (R : sProp (MM F)) {α : Type} {Q : α → sProp (MM F)}

theorem part33_run (v2 : BitVec 32) {kk : (PUnit) → Prog (TpuEff nD τ sig (Elt F) Λ₀ .tc) α}
    (h : Working m ρ K c R 23 16 16 1 ⊢ WP c (kk ⟨⟩) Q) :
    Working m ρ K c R 20 16 16 1 ⊢ WP c (k0_part33 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part33_eq_skeleton]
  unfold k0_part33_skel
  simp only [semSignalWord, semWaitWord, smemLoad, smemLoadElt, Prog.lift, Prog.bind_op, Prog.bind_ret, Prog.pure_eq_ret]
  refine step_fetch m ρ K c _ (⟨20, by decide⟩ : Fin 32) 20 21 16 16 1 rfl rfl (by decide) (by decide) _ _ (by exact off3_how c (⟨20, by decide⟩ : Fin 32)) (by rfl) _ _ _ (by rfl) ?_
  refine step_fetch m ρ K c _ (⟨21, by decide⟩ : Fin 32) 21 22 16 16 1 rfl rfl (by decide) (by decide) _ _ (by exact off3_how c (⟨21, by decide⟩ : Fin 32)) (by rfl) _ _ _ (by rfl) ?_
  refine step_fetch m ρ K c _ (⟨22, by decide⟩ : Fin 32) 22 23 16 16 1 rfl rfl (by decide) (by decide) _ _ (by exact off3_how c (⟨22, by decide⟩ : Fin 32)) (by rfl) _ _ _ (by rfl) ?_
  exact h

theorem part34_run {kk : (PUnit) → Prog (TpuEff nD τ sig (Elt F) Λ₀ .tc) α}
    (h : Working m ρ K c R 24 19 16 1 ⊢ WP c (kk ⟨⟩) Q) :
    Working m ρ K c R 23 16 16 1 ⊢ WP c (k0_part34 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part34_eq_skeleton]
  unfold k0_part34_skel
  simp only [semSignalWord, semWaitWord, smemLoad, smemLoadElt, Prog.lift, Prog.bind_op, Prog.bind_ret, Prog.pure_eq_ret]
  refine step_fetch m ρ K c _ (⟨23, by decide⟩ : Fin 32) 23 24 16 16 1 rfl rfl (by decide) (by decide) _ _ (by exact off3_how c (⟨23, by decide⟩ : Fin 32)) (by rfl) _ _ _ (by rfl) ?_
  refine step_recv m ρ K c _ (⟨16, by decide⟩ : Fin 32) (by decide) 24 16 17 16 1 rfl rfl _ (by rfl) (by rfl) ?_
  refine step_recv m ρ K c _ (⟨17, by decide⟩ : Fin 32) (by decide) 24 17 18 16 1 rfl rfl _ (by rfl) (by rfl) ?_
  refine step_recv m ρ K c _ (⟨18, by decide⟩ : Fin 32) (by decide) 24 18 19 16 1 rfl rfl _ (by rfl) (by rfl) ?_
  exact h

theorem part35_run {kk : (PUnit) → Prog (TpuEff nD τ sig (Elt F) Λ₀ .tc) α}
    (h : Working m ρ K c R 24 20 19 1 ⊢ WP c (kk ⟨⟩) Q) :
    Working m ρ K c R 24 19 16 1 ⊢ WP c (k0_part35 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part35_eq_skeleton]
  unfold k0_part35_skel
  simp only [semSignalWord, semWaitWord, smemLoad, smemLoadElt, Prog.lift, Prog.bind_op, Prog.bind_ret, Prog.pure_eq_ret]
  refine step_recv m ρ K c _ (⟨19, by decide⟩ : Fin 32) (by decide) 24 19 20 16 1 rfl rfl _ (by rfl) (by rfl) ?_
  refine step_wwait m ρ K c _ (⟨16, by decide⟩ : Fin 32) 24 20 16 17 1 rfl rfl (by decide) (by decide) _ (by rfl) (by rfl) ?_
  refine step_wwait m ρ K c _ (⟨17, by decide⟩ : Fin 32) 24 20 17 18 1 rfl rfl (by decide) (by decide) _ (by rfl) (by rfl) ?_
  refine step_wwait m ρ K c _ (⟨18, by decide⟩ : Fin 32) 24 20 18 19 1 rfl rfl (by decide) (by decide) _ (by rfl) (by rfl) ?_
  exact h

theorem part36_run (v2 : BitVec 32) (v859 : FVec F S128x2048 .f32) {kk : (Σ' (v946 : FVec F S128x2048 .f32) (v966 : BitVec 32), BitVec 32) → Prog (TpuEff nD τ sig (Elt F) Λ₀ .tc) α}
    (h : ∀ w1 w2 : BitVec 32, Working m ρ K c R 26 20 20 1 ⊢ WP c (kk ⟨k0_pay8 v859 (xv m ρ c (⟨4, by decide⟩ : Fin 8)) (wv m ρ c (⟨4, by decide⟩ : Fin 8)), w1, w2⟩) Q) :
    Working m ρ K c R 24 20 19 1 ⊢ WP c (k0_part36 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v859 >>= kk) Q := by
  rw [k0_part36_eq_skeleton]
  unfold k0_part36_skel
  simp only [semSignalWord, semWaitWord, smemLoad, smemLoadElt, Prog.lift, Prog.bind_op, Prog.bind_ret, Prog.pure_eq_ret]
  refine step_wwait m ρ K c _ (⟨19, by decide⟩ : Fin 32) 24 20 19 20 1 rfl rfl (by decide) (by decide) _ (by rfl) (by rfl) ?_
  refine step_loadxf m ρ K c _ (⟨4, by decide⟩ : Fin 8) 24 20 20 1 (by decide) _ (by rfl) _ ?_
  refine step_loadwb m ρ K c _ (⟨4, by decide⟩ : Fin 8) 24 20 20 1 (by decide) rfl _ (by rfl) _ ?_
  refine step_fetch m ρ K c _ (⟨24, by decide⟩ : Fin 32) 24 25 20 20 1 rfl rfl (by decide) (by decide) _ _ (by exact off3_how c (⟨24, by decide⟩ : Fin 32)) (by rfl) _ _ _ (by rfl) ?_
  refine step_fetch m ρ K c _ (⟨25, by decide⟩ : Fin 32) 25 26 20 20 1 rfl rfl (by decide) (by decide) _ _ (by exact off3_how c (⟨25, by decide⟩ : Fin 32)) (by rfl) _ _ _ (by rfl) ?_
  exact h _ _

theorem part37_run (v2 : BitVec 32) (v966 : BitVec 32) (c32_i32_989 : BitVec 32) {kk : (PUnit) → Prog (TpuEff nD τ sig (Elt F) Λ₀ .tc) α}
    (h : Working m ρ K c R 28 21 20 1 ⊢ WP c (kk ⟨⟩) Q) :
    Working m ρ K c R 26 20 20 1 ⊢ WP c (k0_part37 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v966 c32_i32_989 >>= kk) Q := by
  rw [k0_part37_eq_skeleton]
  unfold k0_part37_skel
  simp only [semSignalWord, semWaitWord, smemLoad, smemLoadElt, Prog.lift, Prog.bind_op, Prog.bind_ret, Prog.pure_eq_ret]
  refine step_fetch m ρ K c _ (⟨26, by decide⟩ : Fin 32) 26 27 20 20 1 rfl rfl (by decide) (by decide) _ _ (by exact off3_how c (⟨26, by decide⟩ : Fin 32)) (by rfl) _ _ _ (by rfl) ?_
  refine step_fetch m ρ K c _ (⟨27, by decide⟩ : Fin 32) 27 28 20 20 1 rfl rfl (by decide) (by decide) _ _ (by exact off3_how c (⟨27, by decide⟩ : Fin 32)) (by rfl) _ _ _ (by rfl) ?_
  refine step_recv m ρ K c _ (⟨20, by decide⟩ : Fin 32) (by decide) 28 20 21 20 1 rfl rfl _ (by rfl) (by rfl) ?_
  exact h

theorem part38_run {kk : (PUnit) → Prog (TpuEff nD τ sig (Elt F) Λ₀ .tc) α}
    (h : Working m ρ K c R 28 24 21 1 ⊢ WP c (kk ⟨⟩) Q) :
    Working m ρ K c R 28 21 20 1 ⊢ WP c (k0_part38 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part38_eq_skeleton]
  unfold k0_part38_skel
  simp only [semSignalWord, semWaitWord, smemLoad, smemLoadElt, Prog.lift, Prog.bind_op, Prog.bind_ret, Prog.pure_eq_ret]
  refine step_recv m ρ K c _ (⟨21, by decide⟩ : Fin 32) (by decide) 28 21 22 20 1 rfl rfl _ (by rfl) (by rfl) ?_
  refine step_recv m ρ K c _ (⟨22, by decide⟩ : Fin 32) (by decide) 28 22 23 20 1 rfl rfl _ (by rfl) (by rfl) ?_
  refine step_recv m ρ K c _ (⟨23, by decide⟩ : Fin 32) (by decide) 28 23 24 20 1 rfl rfl _ (by rfl) (by rfl) ?_
  refine step_wwait m ρ K c _ (⟨20, by decide⟩ : Fin 32) 28 24 20 21 1 rfl rfl (by decide) (by decide) _ (by rfl) (by rfl) ?_
  exact h

theorem part39_run (v2 : BitVec 32) (v946 : FVec F S128x2048 .f32) {kk : (FVec F S128x2048 .f32) → Prog (TpuEff nD τ sig (Elt F) Λ₀ .tc) α}
    (h : Working m ρ K c R 29 24 24 1 ⊢ WP c (kk (k0_pay9 v946 (xv m ρ c (⟨5, by decide⟩ : Fin 8)) (wv m ρ c (⟨5, by decide⟩ : Fin 8)))) Q) :
    Working m ρ K c R 28 24 21 1 ⊢ WP c (k0_part39 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v946 >>= kk) Q := by
  rw [k0_part39_eq_skeleton]
  unfold k0_part39_skel
  simp only [semSignalWord, semWaitWord, smemLoad, smemLoadElt, Prog.lift, Prog.bind_op, Prog.bind_ret, Prog.pure_eq_ret]
  refine step_wwait m ρ K c _ (⟨21, by decide⟩ : Fin 32) 28 24 21 22 1 rfl rfl (by decide) (by decide) _ (by rfl) (by rfl) ?_
  refine step_wwait m ρ K c _ (⟨22, by decide⟩ : Fin 32) 28 24 22 23 1 rfl rfl (by decide) (by decide) _ (by rfl) (by rfl) ?_
  refine step_wwait m ρ K c _ (⟨23, by decide⟩ : Fin 32) 28 24 23 24 1 rfl rfl (by decide) (by decide) _ (by rfl) (by rfl) ?_
  refine step_loadxf m ρ K c _ (⟨5, by decide⟩ : Fin 8) 28 24 24 1 (by decide) _ (by rfl) _ ?_
  refine step_loadwb m ρ K c _ (⟨5, by decide⟩ : Fin 8) 28 24 24 1 (by decide) rfl _ (by rfl) _ ?_
  refine step_fetch m ρ K c _ (⟨28, by decide⟩ : Fin 32) 28 29 24 24 1 rfl rfl (by decide) (by decide) _ _ (by exact off3_how c (⟨28, by decide⟩ : Fin 32)) (by rfl) _ _ _ (by rfl) ?_
  exact h

theorem part40_run (v2 : BitVec 32) {kk : (PUnit) → Prog (TpuEff nD τ sig (Elt F) Λ₀ .tc) α}
    (h : Working m ρ K c R 32 24 24 1 ⊢ WP c (kk ⟨⟩) Q) :
    Working m ρ K c R 29 24 24 1 ⊢ WP c (k0_part40 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 >>= kk) Q := by
  rw [k0_part40_eq_skeleton]
  unfold k0_part40_skel
  simp only [semSignalWord, semWaitWord, smemLoad, smemLoadElt, Prog.lift, Prog.bind_op, Prog.bind_ret, Prog.pure_eq_ret]
  refine step_fetch m ρ K c _ (⟨29, by decide⟩ : Fin 32) 29 30 24 24 1 rfl rfl (by decide) (by decide) _ _ (by exact off3_how c (⟨29, by decide⟩ : Fin 32)) (by rfl) _ _ _ (by rfl) ?_
  refine step_fetch m ρ K c _ (⟨30, by decide⟩ : Fin 32) 30 31 24 24 1 rfl rfl (by decide) (by decide) _ _ (by exact off3_how c (⟨30, by decide⟩ : Fin 32)) (by rfl) _ _ _ (by rfl) ?_
  refine step_fetch m ρ K c _ (⟨31, by decide⟩ : Fin 32) 31 32 24 24 1 rfl rfl (by decide) (by decide) _ _ (by exact off3_how c (⟨31, by decide⟩ : Fin 32)) (by rfl) _ _ _ (by rfl) ?_
  exact h

theorem part41_run {kk : (PUnit) → Prog (TpuEff nD τ sig (Elt F) Λ₀ .tc) α}
    (h : Working m ρ K c R 32 27 24 1 ⊢ WP c (kk ⟨⟩) Q) :
    Working m ρ K c R 32 24 24 1 ⊢ WP c (k0_part41 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 >>= kk) Q := by
  rw [k0_part41_eq_skeleton]
  unfold k0_part41_skel
  simp only [semSignalWord, semWaitWord, smemLoad, smemLoadElt, Prog.lift, Prog.bind_op, Prog.bind_ret, Prog.pure_eq_ret]
  refine step_recv m ρ K c _ (⟨24, by decide⟩ : Fin 32) (by decide) 32 24 25 24 1 rfl rfl _ (by rfl) (by rfl) ?_
  refine step_recv m ρ K c _ (⟨25, by decide⟩ : Fin 32) (by decide) 32 25 26 24 1 rfl rfl _ (by rfl) (by rfl) ?_
  refine step_recv m ρ K c _ (⟨26, by decide⟩ : Fin 32) (by decide) 32 26 27 24 1 rfl rfl _ (by rfl) (by rfl) ?_
  exact h

theorem part42_run {kk : (Σ' (v1115 : FVec F S128x512 .bf16), Vec F S1x512x2048 .f32) → Prog (TpuEff nD τ sig (Elt F) Λ₀ .tc) α}
    (h : Working m ρ K c R 32 28 28 1 ⊢ WP c (kk ⟨k0_pay10 (xv m ρ c 6), wv m ρ c 6⟩) Q) :
    Working m ρ K c R 32 27 24 1 ⊢ WP c (k0_part42 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part42_eq_skeleton]
  unfold k0_part42_skel
  simp only [semSignalWord, semWaitWord, smemLoad, smemLoadElt, Prog.lift, Prog.bind_op, Prog.bind_ret, Prog.pure_eq_ret]
  refine step_recv m ρ K c _ (⟨27, by decide⟩ : Fin 32) (by decide) 32 27 28 24 1 rfl rfl _ (by rfl) (by rfl) ?_
  refine step_wwait m ρ K c _ (⟨24, by decide⟩ : Fin 32) 32 28 24 25 1 rfl rfl (by decide) (by decide) _ (by rfl) (by rfl) ?_
  refine step_wwait m ρ K c _ (⟨25, by decide⟩ : Fin 32) 32 28 25 26 1 rfl rfl (by decide) (by decide) _ (by rfl) (by rfl) ?_
  refine step_wwait m ρ K c _ (⟨26, by decide⟩ : Fin 32) 32 28 26 27 1 rfl rfl (by decide) (by decide) _ (by rfl) (by rfl) ?_
  refine step_wwait m ρ K c _ (⟨27, by decide⟩ : Fin 32) 32 28 27 28 1 rfl rfl (by decide) (by decide) _ (by rfl) (by rfl) ?_
  refine step_loadxf m ρ K c _ (⟨6, by decide⟩ : Fin 8) 32 28 28 1 (by decide) _ (by rfl) _ ?_
  refine step_loadwb m ρ K c _ (⟨6, by decide⟩ : Fin 8) 32 28 28 1 (by decide) rfl _ (by rfl) _ ?_
  exact h

theorem part43_run (v1033 : FVec F S128x2048 .f32) {kk : (FVec F S128x2048 .f32) → Prog (TpuEff nD τ sig (Elt F) Λ₀ .tc) α}
    (h : Working m ρ K c R 32 31 28 1 ⊢ WP c (kk (k0_pay11 v1033 (k0_pay10 (xv m ρ c 6)) (wv m ρ c 6))) Q) :
    Working m ρ K c R 32 28 28 1 ⊢ WP c (k0_part43 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v1033 (k0_pay10 (xv m ρ c 6)) (wv m ρ c 6) >>= kk) Q := by
  rw [k0_part43_eq_skeleton]
  unfold k0_part43_skel
  simp only [semSignalWord, semWaitWord, smemLoad, smemLoadElt, Prog.lift, Prog.bind_op, Prog.bind_ret, Prog.pure_eq_ret]
  refine step_recv m ρ K c _ (⟨28, by decide⟩ : Fin 32) (by decide) 32 28 29 28 1 rfl rfl _ (by rfl) (by rfl) ?_
  refine step_recv m ρ K c _ (⟨29, by decide⟩ : Fin 32) (by decide) 32 29 30 28 1 rfl rfl _ (by rfl) (by rfl) ?_
  refine step_recv m ρ K c _ (⟨30, by decide⟩ : Fin 32) (by decide) 32 30 31 28 1 rfl rfl _ (by rfl) (by rfl) ?_
  exact h

theorem part44_run {kk : (Vec F S128x512 .fp8e4m3) → Prog (TpuEff nD τ sig (Elt F) Λ₀ .tc) α}
    (h : Working m ρ K c R 32 32 32 1 ⊢ WP c (kk (xv m ρ c (⟨7, by decide⟩ : Fin 8))) Q) :
    Working m ρ K c R 32 31 28 1 ⊢ WP c (k0_part44 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part44_eq_skeleton]
  unfold k0_part44_skel
  simp only [semSignalWord, semWaitWord, smemLoad, smemLoadElt, Prog.lift, Prog.bind_op, Prog.bind_ret, Prog.pure_eq_ret]
  refine step_recv m ρ K c _ (⟨31, by decide⟩ : Fin 32) (by decide) 32 31 32 28 1 rfl rfl _ (by rfl) (by rfl) ?_
  refine step_wwait m ρ K c _ (⟨28, by decide⟩ : Fin 32) 32 32 28 29 1 rfl rfl (by decide) (by decide) _ (by rfl) (by rfl) ?_
  refine step_wwait m ρ K c _ (⟨29, by decide⟩ : Fin 32) 32 32 29 30 1 rfl rfl (by decide) (by decide) _ (by rfl) (by rfl) ?_
  refine step_wwait m ρ K c _ (⟨30, by decide⟩ : Fin 32) 32 32 30 31 1 rfl rfl (by decide) (by decide) _ (by rfl) (by rfl) ?_
  refine step_wwait m ρ K c _ (⟨31, by decide⟩ : Fin 32) 32 32 31 32 1 rfl rfl (by decide) (by decide) _ (by rfl) (by rfl) ?_
  refine step_loadxf m ρ K c _ (⟨7, by decide⟩ : Fin 8) 32 32 32 1 (by decide) _ (by rfl) _ ?_
  exact h

theorem part45_run {kk : (PUnit) → Prog (TpuEff nD τ sig (Elt F) Λ₀ .tc) α}
    (h : Ending m ρ K c R 4 ⊢ WP c (kk ⟨⟩) Q) :
    Working m ρ K c R 32 32 32 1 ⊢ WP c (k0_part45 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c (acc7 m ρ c) (xv m ρ c 7) >>= kk) Q := by
  rw [k0_part45_eq_skeleton]
  unfold k0_part45_skel
  simp only [semSignalWord, semWaitWord, smemLoad, smemLoadElt, Prog.lift, Prog.bind_op, Prog.bind_ret, Prog.pure_eq_ret]
  refine step_loadwb m ρ K c _ (⟨7, by decide⟩ : Fin 8) 32 32 32 1 (by decide) rfl _ (by rfl) _ ?_
  refine step_out m ρ K c R 32 32 32 1 _ rfl ?_
  refine step_sent m ρ K c _ (⟨1, by decide⟩ : Fin 32) (by decide) 32 32 32 1 2 rfl rfl _ (by rfl) (by rfl) ?_
  refine step_sent m ρ K c _ (⟨2, by decide⟩ : Fin 32) (by decide) 32 32 32 2 3 rfl rfl _ (by rfl) (by rfl) ?_
  refine step_sent m ρ K c _ (⟨3, by decide⟩ : Fin 32) (by decide) 32 32 32 3 4 rfl rfl _ (by rfl) (by rfl) ?_
  exact h

theorem part46_run {kk : (PUnit) → Prog (TpuEff nD τ sig (Elt F) Λ₀ .tc) α}
    (h : Ending m ρ K c R 9 ⊢ WP c (kk ⟨⟩) Q) :
    Ending m ρ K c R 4 ⊢ WP c (k0_part46 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part46_eq_skeleton]
  unfold k0_part46_skel
  simp only [semSignalWord, semWaitWord, smemLoad, smemLoadElt, Prog.lift, Prog.bind_op, Prog.bind_ret, Prog.pure_eq_ret]
  refine step_sent m ρ K c _ (⟨4, by decide⟩ : Fin 32) (by decide) 32 32 32 4 5 rfl rfl _ (by rfl) (by rfl) ?_
  refine step_sent m ρ K c _ (⟨5, by decide⟩ : Fin 32) (by decide) 32 32 32 5 6 rfl rfl _ (by rfl) (by rfl) ?_
  refine step_sent m ρ K c _ (⟨6, by decide⟩ : Fin 32) (by decide) 32 32 32 6 7 rfl rfl _ (by rfl) (by rfl) ?_
  refine step_sent m ρ K c _ (⟨7, by decide⟩ : Fin 32) (by decide) 32 32 32 7 8 rfl rfl _ (by rfl) (by rfl) ?_
  refine step_sent m ρ K c _ (⟨8, by decide⟩ : Fin 32) (by decide) 32 32 32 8 9 rfl rfl _ (by rfl) (by rfl) ?_
  exact h

theorem part47_run {kk : (PUnit) → Prog (TpuEff nD τ sig (Elt F) Λ₀ .tc) α}
    (h : Ending m ρ K c R 15 ⊢ WP c (kk ⟨⟩) Q) :
    Ending m ρ K c R 9 ⊢ WP c (k0_part47 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part47_eq_skeleton]
  unfold k0_part47_skel
  simp only [semSignalWord, semWaitWord, smemLoad, smemLoadElt, Prog.lift, Prog.bind_op, Prog.bind_ret, Prog.pure_eq_ret]
  refine step_sent m ρ K c _ (⟨9, by decide⟩ : Fin 32) (by decide) 32 32 32 9 10 rfl rfl _ (by rfl) (by rfl) ?_
  refine step_sent m ρ K c _ (⟨10, by decide⟩ : Fin 32) (by decide) 32 32 32 10 11 rfl rfl _ (by rfl) (by rfl) ?_
  refine step_sent m ρ K c _ (⟨11, by decide⟩ : Fin 32) (by decide) 32 32 32 11 12 rfl rfl _ (by rfl) (by rfl) ?_
  refine step_sent m ρ K c _ (⟨12, by decide⟩ : Fin 32) (by decide) 32 32 32 12 13 rfl rfl _ (by rfl) (by rfl) ?_
  refine step_sent m ρ K c _ (⟨13, by decide⟩ : Fin 32) (by decide) 32 32 32 13 14 rfl rfl _ (by rfl) (by rfl) ?_
  refine step_sent m ρ K c _ (⟨14, by decide⟩ : Fin 32) (by decide) 32 32 32 14 15 rfl rfl _ (by rfl) (by rfl) ?_
  exact h

theorem part48_run {kk : (PUnit) → Prog (TpuEff nD τ sig (Elt F) Λ₀ .tc) α}
    (h : Ending m ρ K c R 20 ⊢ WP c (kk ⟨⟩) Q) :
    Ending m ρ K c R 15 ⊢ WP c (k0_part48 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part48_eq_skeleton]
  unfold k0_part48_skel
  simp only [semSignalWord, semWaitWord, smemLoad, smemLoadElt, Prog.lift, Prog.bind_op, Prog.bind_ret, Prog.pure_eq_ret]
  refine step_sent m ρ K c _ (⟨15, by decide⟩ : Fin 32) (by decide) 32 32 32 15 16 rfl rfl _ (by rfl) (by rfl) ?_
  refine step_sent m ρ K c _ (⟨16, by decide⟩ : Fin 32) (by decide) 32 32 32 16 17 rfl rfl _ (by rfl) (by rfl) ?_
  refine step_sent m ρ K c _ (⟨17, by decide⟩ : Fin 32) (by decide) 32 32 32 17 18 rfl rfl _ (by rfl) (by rfl) ?_
  refine step_sent m ρ K c _ (⟨18, by decide⟩ : Fin 32) (by decide) 32 32 32 18 19 rfl rfl _ (by rfl) (by rfl) ?_
  refine step_sent m ρ K c _ (⟨19, by decide⟩ : Fin 32) (by decide) 32 32 32 19 20 rfl rfl _ (by rfl) (by rfl) ?_
  exact h

theorem part49_run {kk : (PUnit) → Prog (TpuEff nD τ sig (Elt F) Λ₀ .tc) α}
    (h : Ending m ρ K c R 26 ⊢ WP c (kk ⟨⟩) Q) :
    Ending m ρ K c R 20 ⊢ WP c (k0_part49 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part49_eq_skeleton]
  unfold k0_part49_skel
  simp only [semSignalWord, semWaitWord, smemLoad, smemLoadElt, Prog.lift, Prog.bind_op, Prog.bind_ret, Prog.pure_eq_ret]
  refine step_sent m ρ K c _ (⟨20, by decide⟩ : Fin 32) (by decide) 32 32 32 20 21 rfl rfl _ (by rfl) (by rfl) ?_
  refine step_sent m ρ K c _ (⟨21, by decide⟩ : Fin 32) (by decide) 32 32 32 21 22 rfl rfl _ (by rfl) (by rfl) ?_
  refine step_sent m ρ K c _ (⟨22, by decide⟩ : Fin 32) (by decide) 32 32 32 22 23 rfl rfl _ (by rfl) (by rfl) ?_
  refine step_sent m ρ K c _ (⟨23, by decide⟩ : Fin 32) (by decide) 32 32 32 23 24 rfl rfl _ (by rfl) (by rfl) ?_
  refine step_sent m ρ K c _ (⟨24, by decide⟩ : Fin 32) (by decide) 32 32 32 24 25 rfl rfl _ (by rfl) (by rfl) ?_
  refine step_sent m ρ K c _ (⟨25, by decide⟩ : Fin 32) (by decide) 32 32 32 25 26 rfl rfl _ (by rfl) (by rfl) ?_
  exact h

theorem part50_run {kk : (PUnit) → Prog (TpuEff nD τ sig (Elt F) Λ₀ .tc) α}
    (h : Ending m ρ K c R 31 ⊢ WP c (kk ⟨⟩) Q) :
    Ending m ρ K c R 26 ⊢ WP c (k0_part50 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c >>= kk) Q := by
  rw [k0_part50_eq_skeleton]
  unfold k0_part50_skel
  simp only [semSignalWord, semWaitWord, smemLoad, smemLoadElt, Prog.lift, Prog.bind_op, Prog.bind_ret, Prog.pure_eq_ret]
  refine step_sent m ρ K c _ (⟨26, by decide⟩ : Fin 32) (by decide) 32 32 32 26 27 rfl rfl _ (by rfl) (by rfl) ?_
  refine step_sent m ρ K c _ (⟨27, by decide⟩ : Fin 32) (by decide) 32 32 32 27 28 rfl rfl _ (by rfl) (by rfl) ?_
  refine step_sent m ρ K c _ (⟨28, by decide⟩ : Fin 32) (by decide) 32 32 32 28 29 rfl rfl _ (by rfl) (by rfl) ?_
  refine step_sent m ρ K c _ (⟨29, by decide⟩ : Fin 32) (by decide) 32 32 32 29 30 rfl rfl _ (by rfl) (by rfl) ?_
  refine step_sent m ρ K c _ (⟨30, by decide⟩ : Fin 32) (by decide) 32 32 32 30 31 rfl rfl _ (by rfl) (by rfl) ?_
  exact h

end Cert.AllToAll

end
-- ==== Proof.Body.lean ====
/-
# The whole body
-/
module

public import proofs.«01_k».proof.Proof.BodyD

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

variable (K : Names) (c : Dev nD) (R : sProp (MM F))

theorem body_run (Q : sProp (MM F)) (hQ : Ending m ρ K c R 32 ⊢ |={Set.univ}=> Q) : iprop(recs m ρ K ∗ SigS c 1 ∗ Start m ρ c R)
    ⊢ WP c (cc0_body (F := F) (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) (fun _ => Q) := by
  rw [cc0_body_eq_skeleton]
  unfold cc0_body_skel
  refine part1_run m ρ K c R  (fun _ _ _ => ?_)
  dsimp only
  refine part2_run m ρ K c R _ _ _ (fun _ _ => ?_)
  dsimp only
  refine part3_run m ρ K c R _ _ _ (fun _ _ => ?_)
  dsimp only
  refine part4_run m ρ K c R _ _ _ (fun _ _ => ?_)
  dsimp only
  refine part5_run m ρ K c R _ _ _ (fun _ _ => ?_)
  dsimp only
  refine part6_run m ρ K c R _ _ _ ?_
  refine part7_run m ρ K c R _ ?_
  refine part8_run m ρ K c R _ (fun _ => ?_)
  refine part9_run m ρ K c R _ _ ?_
  refine part10_run m ρ K c R _ ?_
  refine part11_run m ρ K c R _ (fun _ => ?_)
  refine part12_run m ρ K c R _ _ (fun _ => ?_)
  refine part13_run m ρ K c R _ _ ?_
  refine part14_run m ρ K c R _ ?_
  refine part15_run m ρ K c R _ (fun _ => ?_)
  refine part16_run m ρ K c R _ _ (fun _ => ?_)
  refine part17_run m ρ K c R _ _ ?_
  refine part18_run m ρ K c R _ ?_
  refine part19_run m ρ K c R _ ?_
  refine part20_run m ρ K c R _ ?_
  refine part21_run m ρ K c R  ?_
  refine part22_run m ρ K c R _ (k0_pay3 (F := F)) (fun _ _ => ?_)
  dsimp only
  refine part23_run m ρ K c R _ _ _ (fun _ => ?_)
  refine part24_run m ρ K c R _ ?_
  refine part25_run m ρ K c R (acc1 m ρ c) ?_
  refine part26_run m ρ K c R _ ?_
  refine part27_run m ρ K c R _ ?_
  refine part28_run m ρ K c R  ?_
  refine part29_run m ρ K c R _ (acc2 m ρ c) ?_
  refine part30_run m ρ K c R _ ?_
  refine part31_run m ρ K c R  ?_
  refine part32_run m ρ K c R _ (acc3 m ρ c) ?_
  refine part33_run m ρ K c R _ ?_
  refine part34_run m ρ K c R  ?_
  refine part35_run m ρ K c R  ?_
  refine part36_run m ρ K c R _ (acc4 m ρ c) (fun _ _ => ?_)
  dsimp only
  refine part37_run m ρ K c R _ _ _ ?_
  refine part38_run m ρ K c R  ?_
  refine part39_run m ρ K c R _ (acc5 m ρ c) ?_
  refine part40_run m ρ K c R _ ?_
  refine part41_run m ρ K c R  ?_
  refine part42_run m ρ K c R  ?_
  dsimp only
  refine part43_run m ρ K c R (acc6 m ρ c) ?_
  refine part44_run m ρ K c R  ?_
  refine part45_run m ρ K c R  ?_
  refine part46_run m ρ K c R  ?_
  refine part47_run m ρ K c R  ?_
  refine part48_run m ρ K c R  ?_
  refine part49_run m ρ K c R  ?_
  refine part50_run m ρ K c R  ?_
  simp only [Prog.lift, Prog.bind_op, Prog.bind_ret, Prog.pure_eq_ret]
  refine step_sent m ρ K c _ (⟨31, by decide⟩ : Fin 32) (by decide) 32 32 32 31 32 rfl rfl _ (by rfl) (by rfl) ?_
  unfold WP; rw [wp_ret]
  exact hQ

end Cert.AllToAll

end
-- ==== Proof.Res.lean ====
/-
# What the body starts from and what it leaves, cut into the body's pieces and put together again
-/
module

public import proofs.«01_k».proof.Proof.Body

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

/-! ## Stretches -/

omit [FloatOps F] in
theorem rng_shift {n : ℕ} (Φ : Fin n → sProp (MM F)) (a k : ℕ) (h : a + k ≤ n) :
    rng Φ a (a + k) = bigSep Finset.univ fun t : Fin k => Φ ⟨a + t.val, by omega⟩ := by
  unfold rng
  rw [show stretch n a (a + k) = (Finset.univ : Finset (Fin k)).map ⟨fun t : Fin k => (⟨a + t.val, by omega⟩ : Fin n), fun t t' e => Fin.ext (by
      have := congrArg Fin.val e; simp only at this; omega)⟩ from by
    ext i
    simp only [stretch, Finset.mem_filter, Finset.mem_univ, _root_.true_and, Finset.mem_map, Function.Embedding.coeFn_mk]
    constructor
    · intro hi; exact ⟨⟨i.val - a, by omega⟩, Fin.ext (by show a + (i.val - a) = i.val; omega)⟩
    · rintro ⟨t, rfl⟩; exact ⟨Nat.le_add_right _ _, by show a + t.val < a + k; omega⟩]
  exact bigSep_map _

omit [FloatOps F] in
theorem univ_pop (Φ : Fin 32 → sProp (MM F)) : bigSep Finset.univ Φ = iprop(Φ 0 ∗ rng Φ 1 32) := by
  rw [← rng_full]; exact rng_pop Φ (0 : Fin 32) 32 (by decide)

omit [FloatOps F] in
theorem univ_rest (Φ : Fin 32 → sProp (MM F)) : bigSep Finset.univ Φ ⊢ rng Φ 1 32 := by
  rw [univ_pop]; iintro ⟨-, H⟩; iexact H

/-! ## The gather buffer -/

def negE : Fin 32 ≃ Fin 32 := ⟨fun t => -t, fun t => -t, by decide, by decide⟩

omit [FloatOps F] in
theorem colsF_all : colsF 0 32 = Finset.univ := by
  ext i
  have : (i 1).val < 4096 := (i 1).isLt
  simp only [colsF, Finset.mem_filter, Finset.mem_univ, _root_.true_and, iff_true]; omega

omit [FloatOps F] in
theorem slots (c : Dev nD) : (iprop(∃ f : Buf (Elt F) (xfL c), xfL c ↦{fullShare} f) : sProp (MM F))
    ⊢ iprop(slotAny c 0 ∗ rng (fun t : Fin 32 => slotAny c (-t)) 1 32) := by
  have h : (Finset.univ : Finset (Fin 32)).biUnion (fun t => colsF t.val (t.val + 1)) = Finset.univ := by
    ext i
    simp only [Finset.mem_biUnion, Finset.mem_univ, _root_.true_and, iff_true, colsF, Finset.mem_filter]
    have hi : (i 1).val < 4096 := (i 1).isLt
    exact ⟨⟨(i 1).val / 128, by omega⟩, by show 128 * ((i 1).val / 128) ≤ (i 1).val; omega, by show (i 1).val < 128 * ((i 1).val / 128 + 1); omega⟩
  have hs (f : Buf (Elt F) (xfL c)) : (iprop(xfL c ↦{fullShare} f) : sProp (MM F)) ⊢ bigSep Finset.univ fun t : Fin 32 => slotAny c t := by
    show (iprop(xfL c ↦[Finset.univ]{fullShare} f) : sProp (MM F)) ⊢ _
    rw [← h, pointsTo_biUnion]
    · exact bigSep_mono fun t _ => show (iprop(xfL c ↦[colsF t.val (t.val + 1)]{fullShare} f) : sProp (MM F)) ⊢ slotAny c t from by
        unfold slotAny; iintro H; iexists f; iexact H
    · intro t _ t' _ hne
      refine Finset.disjoint_left.mpr fun i hi hj => hne (Fin.ext ?_)
      simp only [colsF, Finset.mem_filter, Finset.mem_univ, _root_.true_and] at hi hj
      omega
  iintro ⟨%f, H⟩
  ihave H := (hs f) $$ H
  have e : (bigSep Finset.univ fun t : Fin 32 => (slotAny c t : sProp (MM F))) = iprop(slotAny c 0 ∗ rng (fun t : Fin 32 => slotAny c (-t)) 1 32) := by
    rw [bigSep_univ_equiv negE (fun t : Fin 32 => (slotAny c t : sProp (MM F)))]
    exact univ_pop (fun t : Fin 32 => (slotAny c (-t) : sProp (MM F)))
  ihave H := (Entails.of_eq e) $$ H
  iexact H

/-! ## The weights -/

theorem w_blocks (c : Dev nD) : (iprop(wL c ↦{fullShare} wArr m ρ c) : sProp (MM F)) = rng (wblk m ρ c) 0 32 := by
  have hs : ∀ c x : Fin 32, c - (c - x) = x := by decide
  have h : (Finset.univ : Finset (Fin 32)).biUnion (fun t => rowsW (c - t : Fin 32).val) = Finset.univ := by
    ext i
    simp only [Finset.mem_biUnion, Finset.mem_univ, _root_.true_and, iff_true, rowsW, Finset.mem_filter]
    have hi : (i 0).val < 4096 := (i 0).isLt
    obtain ⟨b, hb⟩ : ∃ b : Fin 32, b.val = (i 0).val / 128 := ⟨⟨(i 0).val / 128, by omega⟩, rfl⟩
    refine ⟨(c - b : Fin 32), ?_⟩
    have hc : (c - (c - b : Fin 32) : Fin 32).val = b.val := congrArg Fin.val (hs c b)
    refine ⟨?_, ?_⟩ <;> omega
  rw [rng_full]
  show (iprop(wL c ↦[Finset.univ]{fullShare} wArr m ρ c) : sProp (MM F)) = _
  rw [← h, pointsTo_biUnion]
  · rfl
  · intro t _ t' _ hne
    refine Finset.disjoint_left.mpr fun i hi hj => hne ?_
    simp only [rowsW, Finset.mem_filter, Finset.mem_univ, _root_.true_and] at hi hj
    have e : (c - t : Fin 32) = (c - t' : Fin 32) := Fin.ext (by omega)
    have := congrArg (fun x : Fin 32 => (c - x : Fin 32)) e
    simpa only [hs] using this

/-- The double buffer's eight semaphores at zero. -/
def wsems (c : Dev nD) : sProp (MM F) := bigSep Finset.univ fun t : Fin 8 => semVal (wCell c t.val) 0

omit [FloatOps F] in
theorem wb_pieces (c : Dev nD) (f : Buf (Elt F) (wbL c)) : (iprop(wbL c ↦{fullShare} f) : sProp (MM F)) = bigSep Finset.univ fun t : Fin 8 => piece c t.val f := by
  have h : (Finset.univ : Finset (Fin 8)).biUnion (fun t => rowsB (t.val / 4) (t.val % 4) (t.val % 4 + 1)) = Finset.univ := by
    ext i
    simp only [Finset.mem_biUnion, Finset.mem_univ, _root_.true_and, iff_true, rowsB, Finset.mem_filter]
    have h0 : (i 0).val < 2 := (i 0).isLt
    have h1 : (i 1).val < 512 := (i 1).isLt
    obtain ⟨b, hb⟩ : ∃ b : Fin 8, b.val = 4 * (i 0).val + (i 1).val / 128 := ⟨⟨4 * (i 0).val + (i 1).val / 128, by omega⟩, rfl⟩
    exact ⟨b, by omega, by omega, by omega⟩
  show (iprop(wbL c ↦[Finset.univ]{fullShare} f) : sProp (MM F)) = _
  rw [← h, pointsTo_biUnion]
  · rfl
  · intro t _ t' _ hne
    refine Finset.disjoint_left.mpr fun i hi hj => hne (Fin.ext ?_)
    simp only [rowsB, Finset.mem_filter, Finset.mem_univ, _root_.true_and] at hi hj
    omega

theorem own_start (c : Dev nD) : (iprop(wsems c ∗ ∃ f : Buf (Elt F) (wbL c), wbL c ↦{fullShare} f) : sProp (MM F)) ⊢ rng (Own m ρ c) 0 8 := by
  have e : rng (Own m ρ c) 0 (0 + 8) = _ := rng_shift (Own m ρ c) 0 8 (by decide)
  rw [show (8 : ℕ) = 0 + 8 from rfl, e]
  iintro ⟨Hs, ⟨%f, Hb⟩⟩
  have h : iprop(wsems c ∗ (wbL c ↦{fullShare} f)) ⊢ bigSep Finset.univ fun t : Fin 8 => Own m ρ c ⟨0 + t.val, by omega⟩ := by
    rw [wb_pieces, wsems, ← bigSep_sep']
    refine bigSep_mono fun t _ => show iprop(semVal (wCell c t.val) 0 ∗ piece c t.val f) ⊢ Own m ρ c ⟨0 + t.val, by omega⟩ from ?_
    unfold Own
    rw [if_pos (show 0 + t.val < 8 by omega)]
    iintro ⟨H1, H2⟩
    isplitl [H1]
    · simp only [Nat.zero_add]; iexact H1
    · iexists f; simp only [Nat.zero_add, Nat.mod_eq_of_lt t.isLt]; iexact H2
  iapply h
  isplitl [Hs]; · iexact Hs
  iexact Hb

theorem own_finish (c : Dev nD) : rng (Own m ρ c) 32 40 ⊢ (iprop(wsems c ∗ ∃ f : Buf (Elt F) (wbL c), wbL c ↦{fullShare} f) : sProp (MM F)) := by
  have e6 := own_join m ρ c (6 : Fin 8)
  have e7 := own_join m ρ c (7 : Fin 8)
  have es : rng (fun k : Fin 40 => (semVal (wCell c k.val) 0 : sProp (MM F))) 32 (32 + 8) = wsems c := by
    rw [rng_shift _ 32 8 (by decide)]
    unfold wsems
    refine bigSep_congr fun t _ => ?_
    have : (Fin.ofNat 8 (32 + t.val) : Fin 8) = Fin.ofNat 8 t.val := Fin.ext (by show (32 + t.val) % 8 = t.val % 8; omega)
    show (semVal (wCell c (32 + t.val)) 0 : sProp (MM F)) = semVal (wCell c t.val) 0
    unfold wCell; rw [this]
  rw [rng_split (Own m ρ c) 32 36 40 (by decide) (by decide)]
  rw [rng_split _ 32 36 (32 + 8) (by decide) (by decide)] at es
  have e6' : rng (Own m ρ c) 32 36 = iprop(rng (fun k : Fin 40 => semVal (wCell c k.val) 0) 32 36 ∗ (wbL c ↦[rowsB 0 0 4]{fullShare} wcon m ρ c 6)) := e6
  have e7' : rng (Own m ρ c) 36 40 = iprop(rng (fun k : Fin 40 => semVal (wCell c k.val) 0) 36 40 ∗ (wbL c ↦[rowsB 1 0 4]{fullShare} wcon m ρ c 7)) := e7
  rw [e6', e7', ← es]
  have hu : rowsB 0 0 4 ∪ rowsB 1 0 4 = Finset.univ := by
    ext i
    have h0 : (i 0).val < 2 := (i 0).isLt
    have h1 : (i 1).val < 512 := (i 1).isLt
    simp only [rowsB, Finset.mem_union, Finset.mem_filter, Finset.mem_univ, _root_.true_and, iff_true]; omega
  have hj : (iprop((wbL c ↦[rowsB 0 0 4]{fullShare} wcon m ρ c 6) ∗ (wbL c ↦[rowsB 1 0 4]{fullShare} wcon m ρ c 7)) : sProp (MM F))
      ⊢ iprop(∃ f : Buf (Elt F) (wbL c), wbL c ↦{fullShare} f) := by
    refine BIBase.Entails.trans (pointsTo_join (Finset.disjoint_left.mpr fun i hi hj => by
      simp only [rowsB, Finset.mem_filter, Finset.mem_univ, _root_.true_and] at hi hj; omega)) ?_
    rw [hu]
    iintro H; iexists _; iexact H
  iintro ⟨⟨H1, H2⟩, H3, H4⟩
  isplitl [H1 H3]
  · isplitl [H1]; · iexact H1
    iexact H3
  iapply hj
  isplitl [H2]; · iexact H2
  iexact H4

/-! ## Closing the cells -/

variable (K : Names)

theorem close_at (ck : Dev nD × Option (Bool × Fin 32)) (R : ℕ) (hR : ∀ r, R ≤ r → (Rd (F := F) m ρ).duties (kcell ck) r = ∅) :
    iprop(recs m ρ K ∗ atPos ER (kcell ck) R ∅ 0) ⊢ |={Set.univ}=> (semVal (kcell ck) 0 : sProp (MM F)) := by
  iintro ⟨#Hr, Ha⟩
  iapply (Rounds.cell_close ER (Rd m ρ) (Set.mem_univ (K ck)) (fun h => h) (R := R) hR)
  isplitr; · iapply (recs_inv m ρ K ck); iexact Hr
  iexact Ha

theorem close_all (c : Dev nD) (b : Bool) (h0 : ∀ r, 0 ≤ r → (Rd (F := F) m ρ).duties (kcell (c, some (b, 0))) r = ∅) :
    iprop(recs m ρ K ∗ atPos ER (kcell (c, some (b, 0))) 0 ∅ 0 ∗ rng (fun t : Fin 32 => atPos ER (kcell (c, some (b, t))) 1 ∅ 0) 1 32)
      ⊢ |={Set.univ}=> (bigSep Finset.univ fun t : Fin 32 => semVal (kcell (c, some (b, t))) 0 : sProp (MM F)) := by
  rw [univ_pop]
  have hs : iprop(recs m ρ K ∗ rng (fun t : Fin 32 => atPos ER (kcell (c, some (b, t))) 1 ∅ 0) 1 32)
      ⊢ |={Set.univ}=> (rng (fun t : Fin 32 => semVal (kcell (c, some (b, t))) 0) 1 32 : sProp (MM F)) := by
    refine BIBase.Entails.trans ?_ (bigSep_fupd _ _)
    refine (sep_mono_left (BI.bigSep_of_persistent (stretch 32 1 32) (recs m ρ K))).trans ?_
    unfold rng
    rw [← bigSep_sep']
    exact bigSep_mono fun t _ => close_at m ρ K (c, some (b, t)) 1 (duties_later m ρ _)
  iintro ⟨#Hr, H0, H⟩
  imod (close_at m ρ K (c, some (b, 0)) 0 h0) $$ [H0] with H0
  · isplitr; · iexact Hr
    iexact H0
  imod hs $$ [H] with H
  · isplitr; · iexact Hr
    iexact H
  imodintro
  isplitl [H0] <;> iassumption

/-! ## The body's two ends -/

/-- What device `c` holds of the protocol besides the records: its positions, and the tokens of the duties it pays. -/
def payToks (c : Dev nD) : sProp (MM F) :=
  iprop((bigSep Finset.univ fun t : Fin 32 => dutyTok ER (barCell (c + t : Fin 32)) 0 (-t))
    ∗ (bigSep Finset.univ fun t : Fin 32 => dutyTok ER (sendCell c t) 0 0)
    ∗ bigSep Finset.univ fun t : Fin 32 => dutyTok ER (recvCell (c + t : Fin 32) t) 0 0)
def linear (c : Dev nD) : sProp (MM F) :=
  iprop((atPos ER (barCell c) 0 ∅ 0 ∗ (bigSep Finset.univ fun t : Fin 32 => atPos ER (sendCell c t) 0 ∅ 0)
    ∗ (bigSep Finset.univ fun t : Fin 32 => atPos ER (recvCell c t) 0 ∅ 0)) ∗ payToks c)
def creds (c : Dev nD) : sProp (MM F) :=
  iprop(cred (tallyAt (barCell c) () 31) ∗ rng (fun t : Fin 32 => cred (tallyAt (recvCell c t) () N)) 1 32)

def start (c : Dev nD) : sProp (MM F) :=
  iprop((∃ K, recs m ρ K ∗ linear c) ∗ wsems c ∗ creds c ∗ (wL c ↦{fullShare} wArr m ρ c))

/-- The three scratch buffers, at any contents. -/
def scr (c : Dev nD) : sProp (MM F) :=
  iprop(xeAny c ∗ (∃ f : Buf (Elt F) (xfL c), xfL c ↦{fullShare} f) ∗ (∃ f : Buf (Elt F) (wbL c), wbL c ↦{fullShare} f))

def Φ₀ (c : Dev nD) : sProp (MM F) := iprop(start m ρ c ∗ scr c)
def Φ₁ (c : Dev nD) : sProp (MM F) :=
  iprop(scr c ∗ ((bigSep Finset.univ fun t : Fin 32 => semVal (sendCell c t) 0) ∗ (bigSep Finset.univ fun t : Fin 32 => semVal (recvCell c t) 0) ∗ wsems c)
    ∗ semVal (barCell c) 0 ∗ (wL c ↦{fullShare} wArr m ρ c))

/-- The positions at the two semaphores no copy uses. -/
def Rest (c : Dev nD) : sProp (MM F) := iprop(atPos ER (sendCell c 0) 0 ∅ 0 ∗ atPos ER (recvCell c 0) 0 ∅ 0)

theorem body_pre (c : Dev nD) : iprop(Φ₀ m ρ c ∗ (∃ W, owes (c : Thread nD τ) (Osig c 1) W) ∗ stgX m ρ c ∗ stgS m ρ c ∗ outAny c)
    ⊢ iprop(∃ K, recs m ρ K ∗ SigS c 1 ∗ Start m ρ c (Rest c)) := by
  unfold Φ₀ start linear payToks creds scr SigS Start Tok Later WS Rest
  rw [rng_sep, rng_sep, rng_sep, w_blocks, rng_empty (wblk m ρ c) 0 0 (le_refl _), rng_empty (Fl m ρ c) 0 0 (le_refl _),
    univ_pop fun t : Fin 32 => atPos ER (sendCell c t) 0 ∅ 0, univ_pop fun t : Fin 32 => atPos ER (recvCell c t) 0 ∅ 0]
  iintro ⟨⟨⟨⟨%K, #Hr, ⟨HaB, ⟨HaS0, HaS⟩, HaV0, HaV⟩, HtB, HtS, HtV⟩, Hws, ⟨HcB, HcV⟩, Hw⟩, Hxe, Hxf, Hwb⟩, Ho, Hx, Hs, Hout⟩
  iexists K
  isplitr; · iexact Hr
  ihave Hsl := (slots (F := F) c) $$ Hxf
  icases Hsl with ⟨Hsl0, Hsl⟩
  ihave Hown := (own_start m ρ c) $$ [Hws Hwb]
  · isplitl [Hws]; · iexact Hws
    iexact Hwb
  ihave HtB := (univ_rest _) $$ HtB
  ihave HtS := (univ_rest _) $$ HtS
  ihave HtV := (univ_rest _) $$ HtV
  isplitl [HtB Hsl Ho]
  · isplitr [Ho]
    · isplitl [HtB]; · iexact HtB
      iexact Hsl
    iexact Ho
  isplitl [HcB HaB]
  · isplitl [HcB]; · iexact HcB
    iexact HaB
  isplitl [HtS HtV]
  · isplitl [HtS]; · iexact HtS
    iexact HtV
  isplitl [Hx]; · iexact Hx
  isplitl [Hxe]; · iexact Hxe
  isplitl [Hsl0]; · iexact Hsl0
  isplitl [HaV HcV]
  · isplitl [HaV]; · iexact HaV
    iexact HcV
  isplitl [HaS]; · iexact HaS
  isplitl [Hw Hown]
  · isplitl [Hw]; · iexact Hw
    isplitr; · iempintro
    isplitl [Hown]; · iexact Hown
    iempintro
  isplitl [Hs]; · iexact Hs
  isplitl [Hout]; · iexact Hout
  isplitl [HaS0]; · iexact HaS0
  iexact HaV0

theorem body_post (c : Dev nD) : Ending m ρ K c (Rest c) 32
    ⊢ |={Set.univ}=> iprop(Φ₁ m ρ c ∗ (∃ W, owes (c : Thread nD τ) 0 W) ∗ stgX m ρ c ∗ stgS m ρ c ∗ outIs m ρ c) := by
  unfold Ending Mid Held Rest RecvS WS SentS Φ₁ scr
  rw [w_blocks, colsF_all, show (32 + 8 : ℕ) = 40 from rfl]
  iintro ⟨#Hr, ⟨-, HaV, Hxf⟩, ⟨-, Hw, Hown, -⟩, ⟨-, HaS, Hxb⟩, Ho, ⟨Hx, Hx0, HaB⟩, Hs, Hout, HaS0, HaV0⟩
  imod (close_all m ρ K c false (duties_send0 m ρ c)) $$ [HaS HaS0] with HzS
  · isplitr; · iexact Hr
    isplitl [HaS0]; · iexact HaS0
    iexact HaS
  imod (close_all m ρ K c true (duties_recv0 m ρ c)) $$ [HaV HaV0] with HzV
  · isplitr; · iexact Hr
    isplitl [HaV0]; · iexact HaV0
    iexact HaV
  imod (close_at m ρ K (c, none) 1 (duties_later m ρ _)) $$ [HaB] with HzB
  · isplitr; · iexact Hr
    iexact HaB
  imodintro
  ihave Hwb := (own_finish m ρ c) $$ Hown
  icases Hwb with ⟨Hws, Hwb⟩
  ihave Hxe := (Entails.of_eq (xe_blocks m ρ c).symm) $$ [Hx0 Hxb]
  · isplitl [Hx0]; · iexact Hx0
    iexact Hxb
  isplitr [Ho Hx Hs Hout]
  · isplitl [Hxe Hxf Hwb]
    · isplitl [Hxe]; · unfold xeAny; iexists _; iexact Hxe
      isplitl [Hxf]; · iexists _; iexact Hxf
      iexact Hwb
    isplitl [HzS HzV Hws]
    · isplitl [HzS]; · iexact HzS
      isplitl [HzV]; · iexact HzV
      iexact Hws
    isplitl [HzB]; · iexact HzB
    iexact Hw
  isplitl [Ho]; · iexact Ho
  isplitl [Hx]; · iexact Hx
  isplitl [Hs]; · iexact Hs
  iexact Hout

end Cert.AllToAll

end
-- ==== Proof.Ghost.lean ====
/-
# The ghost state of the launch
-/
module

public import proofs.«01_k».proof.Proof.Res

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

/-! ## Cells and tokens -/

/-- A number per semaphore. -/
def semNo : SemLoc sig → ℕ | .reg _ => 0 | .dma q => q.val + 1

theorem csem_inj : Function.Injective csem := by
  intro k k' h
  have h := congrArg semNo h
  rcases k with _ | ⟨_ | _, t⟩ <;> rcases k' with _ | ⟨_ | _, t'⟩ <;> simp only [csem, semNo, sendS, recvS] at h
  · rfl
  · omega
  · omega
  · omega
  · exact congrArg (fun t => some (false, t)) (Fin.ext (by omega))
  · omega
  · omega
  · omega
  · exact congrArg (fun t => some (true, t)) (Fin.ext (by omega))

theorem kcell_injective : Function.Injective kcell := by
  rintro ⟨c, k⟩ ⟨c', k'⟩ h
  have h1 : c = c' := congrArg (fun g : GSem nD τ sig => g.1.1) h
  have h2 : k = k' := csem_inj (congrArg Prod.snd h)
  rw [h1, h2]
def cells : Finset (GSem nD τ sig) := Finset.univ.map ⟨kcell, kcell_injective⟩

/-- Every device's tokens as minted: its barrier's by duty, its send cells' and its receive cells'. -/
abbrev tokOf (x : Dev nD × (Fin 3 × Fin 32)) : GSem nD τ sig × ℕ × Fin 32 := match x.2.1 with
  | 0 => (barCell x.1, 0, x.2.2) | 1 => (sendCell x.1 x.2.2, 0, 0) | 2 => (recvCell x.1 x.2.2, 0, 0)
theorem tokOf_injective : Function.Injective tokOf := by
  rintro ⟨c, j, t⟩ ⟨c', j', t'⟩ h
  have h1 : c = c' := by
    have := congrArg (fun x : GSem nD τ sig × ℕ × Fin 32 => x.1.1.1) h
    fin_cases j <;> fin_cases j' <;> exact this
  have h2 := congrArg (fun x : GSem nD τ sig × ℕ × Fin 32 => semNo x.1.2) h
  have h3 := congrArg (fun x : GSem nD τ sig × ℕ × Fin 32 => x.2.2) h
  subst h1
  have h4 : j = j' ∧ t = t' := by
    fin_cases j <;> fin_cases j' <;> simp only [tokOf, semNo, sendS, recvS] at h2 h3
    · exact ⟨rfl, h3⟩
    · exact absurd h2 (by omega)
    · exact absurd h2 (by omega)
    · exact absurd h2 (by omega)
    · exact ⟨rfl, Fin.ext (by omega)⟩
    · exact absurd h2 (by omega)
    · exact absurd h2 (by omega)
    · exact absurd h2 (by omega)
    · exact ⟨rfl, Fin.ext (by omega)⟩
  rw [h4.1, h4.2]
def minted : Finset (GSem nD τ sig × ℕ × Fin 32) := Finset.univ.map ⟨tokOf, tokOf_injective⟩

def u₀ : UU := (initOf (Pipeline.cells cfgs cellOf_inj) (Pipeline.launchToks cfgs cellOf_inj), (initOf cells minted, 1))

omit [FloatOps F] in
theorem ownU_parts (a : UR sig nD τ) (b : UB) : (ownU ((a, (b, (1 : Counters))) : UU) : sProp (MM F)) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

def toks (c : Dev nD) : sProp (MM F) :=
  iprop((bigSep Finset.univ fun t : Fin 32 => dutyTok ER (barCell c) 0 t)
    ∗ (bigSep Finset.univ fun t : Fin 32 => dutyTok ER (sendCell c t) 0 0)
    ∗ bigSep Finset.univ fun t : Fin 32 => dutyTok ER (recvCell c t) 0 0)

/-- What the launch deals device `c`, and what the global step makes of it. -/
def G (c : Dev nD) : sProp (MM F) :=
  iprop((bigSep Finset.univ fun k => roundState ER (Rd m ρ) (kcell (c, k)) 0)
    ∗ (bigSep Finset.univ fun k => atPos ER (kcell (c, k)) 0 ∅ 0) ∗ (bigSep Finset.univ fun k => reached ER (kcell (c, k)) 0) ∗ toks c)
def recs0 (K : Names) : sProp (MM F) :=
  iprop((bigSep Finset.univ fun ck => cellInv ER (Rd m ρ) (K ck) (kcell ck)) ∗ (bigSep Finset.univ fun ck => reached ER (kcell ck) 0))
instance recs0_persistent (K : Names) : BI.Persistent (recs0 m ρ K) := by unfold recs0; infer_instance
def G' (c : Dev nD) : sProp (MM F) := iprop(∃ K, recs0 m ρ K ∗ linear c)

omit [FloatOps F] in
theorem bigSep_fin3 (Φ : Fin 3 → sProp (MM F)) : bigSep Finset.univ Φ = iprop(Φ 0 ∗ Φ 1 ∗ Φ 2) := bigSep_univ_eq_bigSepL [0, 1, 2] (by decide) (by decide) Φ

omit [FloatOps F] in
/-- The barrier, the send and the receive semaphores one kind after another. -/
theorem bigSep_kinds (Φ : Option (Bool × Fin 32) → sProp (MM F)) : bigSep Finset.univ Φ
    = iprop(Φ none ∗ (bigSep Finset.univ fun t => Φ (some (false, t))) ∗ (bigSep Finset.univ fun t => Φ (some (true, t)))) := by
  rw [show (Finset.univ : Finset (Option (Bool × Fin 32))) = insert none (Finset.univ.map Function.Embedding.some) from by
      ext k; cases k <;> simp,
    bigSep_insert (by simp), bigSep_map]
  have e : (bigSep Finset.univ fun j : Bool × Fin 32 => Φ (Function.Embedding.some j)) = iprop((bigSep Finset.univ fun t => Φ (some (false, t))) ∗ (bigSep Finset.univ fun t => Φ (some (true, t)))) := by
    rw [bigSep_univ_prod, show (Finset.univ : Finset Bool) = {false, true} by decide, bigSep_insert (by decide), bigSep_singleton]; rfl
  rw [e]; rfl

theorem fund_cells : BI.own (ER (initOf cells minted)) ⊢ (|==> bigSep Finset.univ (G m ρ) : sProp (MM F)) := by
  have hX (Φ : GSem nD τ sig → sProp (MM F)) : bigSep cells Φ = bigSep Finset.univ fun c : Dev nD => bigSep Finset.univ fun k => Φ (kcell (c, k)) := by
    unfold cells; rw [bigSep_map, bigSep_univ_prod]; rfl
  have hT : bigSep minted (fun x => (dutyTok ER x.1 x.2.1 x.2.2 : sProp (MM F))) = bigSep Finset.univ fun c : Dev nD => toks c := by
    unfold minted; rw [bigSep_map, bigSep_univ_prod]
    exact bigSep_congr fun c _ => by unfold toks; rw [bigSep_univ_prod, bigSep_fin3]; rfl
  iintro HX
  imod (Rounds.fund ER (Rd m ρ) cells minted) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

/-- The kernel's own semaphores: thirty-two to send, thirty-two to receive, eight for the weights. -/
abbrev osem : Fin 72 → SemLoc sig := fun i => .dma ⟨4 + i.val, by show 4 + i.val < 76; omega⟩

omit [FloatOps F] in
theorem ownSems0_eq (c : Dev nD) : (Pipeline.ownSems0 (Ix := Unit) (Name := ℕ) (U := UU) (Lvl := ℕ) (Val := Elt F) (τ := τ) osem c : sProp (MM F))
    = iprop((bigSep Finset.univ fun t : Fin 32 => semVal (sendCell c t) 0) ∗ (bigSep Finset.univ fun t : Fin 32 => semVal (recvCell c t) 0) ∗ wsems c) := by
  unfold Pipeline.ownSems0 wsems
  rw [← rng_full, rng_split _ 0 (0 + 32) 72 (by decide) (by decide), rng_split _ (0 + 32) (0 + 32 + 32) 72 (by decide) (by decide),
    show rng (fun k : Fin 72 => (semVal ((c.tc : Thread nD τ), osem k) 0 : sProp (MM F))) (0 + 32 + 32) 72 = rng _ (0 + 32 + 32) (0 + 32 + 32 + 8) from rfl,
    rng_shift _ 0 32 (by decide), rng_shift _ (0 + 32) 32 (by decide), rng_shift _ (0 + 32 + 32) 8 (by decide)]
  have e (q q' : DmaSem sig) (h : q.val = q'.val) : (semVal ((c : Thread nD τ), .dma q) 0 : sProp (MM F)) = semVal ((c : Thread nD τ), .dma q') 0 := by
    rw [Fin.ext h]
  refine congrArg₂ _ (bigSep_congr fun t _ => e _ _ ?_) (congrArg₂ _ (bigSep_congr fun t _ => e _ _ ?_) (bigSep_congr fun t _ => e _ _ ?_))
  · show 4 + (0 + t.val) = 4 + t.val; omega
  · show 4 + (0 + 32 + t.val) = 36 + t.val; omega
  · show 4 + (0 + 32 + 32 + t.val) = 68 + t.val % 8; omega

omit [FloatOps F] in
theorem unscopedSems0_eq (c : Dev nD) : (unscopedSems0 c : sProp (MM F)) = semVal (barCell c) 0 := by
  unfold unscopedSems0; rw [bigSep_eq_bigSepL_of_eq [SemLoc.reg barS] (by decide) (by decide)]; rfl

/-! ## The global step -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => atPos ER (kcell (c, k)) 0 ∅ 0) ∗ (bigSep Finset.univ fun k => reached ER (kcell (c, k)) 0) ∗ toks c ∗ wsems c) := by
  have hv : iprop(Pipeline.ownSems0 (Ix := Unit) (Name := ℕ) (U := UU) (Lvl := ℕ) (Val := Elt F) (τ := τ) osem c ∗ unscopedSems0 c)
      ⊢ (iprop((bigSep Finset.univ fun k => semVal (kcell (c, k)) 0) ∗ wsems c) : sProp (MM F)) := by
    rw [ownSems0_eq, unscopedSems0_eq, bigSep_kinds]
    iintro ⟨⟨HS, HV, HW⟩, HB⟩
    isplitr [HW]
    · isplitl [HB]; · iexact HB
      isplitl [HS]; · iexact HS
      iexact HV
    iexact HW
  unfold G
  iintro ⟨Hos, Hus, Hst, Hat, Hre, Htok⟩
  ihave Hv := hv $$ [Hos Hus]
  · isplitl [Hos] <;> iassumption
  icases Hv with ⟨Hv, Hw⟩
  imod (show iprop((bigSep Finset.univ fun k => semVal (kcell (c, k)) 0) ∗ bigSep Finset.univ fun k => roundState ER (Rd m ρ) (kcell (c, k)) 0)
      ⊢ (|={Set.univ}=> bigSep Finset.univ fun k => iprop(∃ κ : ℕ, cellInv ER (Rd m ρ) κ (kcell (c, k))) : sProp (MM F)) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hre]; · iexact Hre
  isplitl [Htok]; · iexact Htok
  iexact Hw

/-- From the device that pays a barrier duty to the device it is paid at, and back. -/
def barE : (Dev nD × Fin 32) ≃ (Dev nD × Fin 32) :=
  have h : ∀ c t : Fin 32, c + t + -t = c := by decide
  have h' : ∀ t : Fin 32, - -t = t := by decide
  ⟨fun x => ((x.1 + x.2 : Fin 32), -x.2), fun x => ((x.1 + x.2 : Fin 32), -x.2), fun x => Prod.ext (h x.1 x.2) (h' x.2), fun x => Prod.ext (h x.1 x.2) (h' x.2)⟩
def recvE : (Dev nD × Fin 32) ≃ (Dev nD × Fin 32) :=
  have h : ∀ c t : Fin 32, c + t - t = c := by decide
  have h' : ∀ c t : Fin 32, c - t + t = c := by decide
  ⟨fun x => ((x.1 + x.2 : Fin 32), x.2), fun x => ((x.1 - x.2 : Fin 32), x.2), fun x => Prod.ext (h x.1 x.2) rfl, fun x => Prod.ext (h' x.1 x.2) rfl⟩

omit [FloatOps F] in
theorem toks_around : (bigSep Finset.univ fun c : Dev nD => (toks c : sProp (MM F))) ⊢ bigSep Finset.univ fun c : Dev nD => payToks c := by
  have e1 : (bigSep Finset.univ fun c : Dev nD => bigSep Finset.univ fun t : Fin 32 => (dutyTok ER (barCell c) 0 t : sProp (MM F)))
      = bigSep Finset.univ fun c : Dev nD => bigSep Finset.univ fun t : Fin 32 => dutyTok ER (barCell (c + t : Fin 32)) 0 (-t) := by
    rw [← bigSep_univ_prod (fun x : Dev nD × Fin 32 => (dutyTok ER (barCell x.1) 0 x.2 : sProp (MM F))), bigSep_univ_equiv barE, bigSep_univ_prod]; rfl
  have e3 : (bigSep Finset.univ fun c : Dev nD => bigSep Finset.univ fun t : Fin 32 => (dutyTok ER (recvCell c t) 0 0 : sProp (MM F)))
      = bigSep Finset.univ fun c : Dev nD => bigSep Finset.univ fun t : Fin 32 => dutyTok ER (recvCell (c + t : Fin 32) t) 0 0 := by
    rw [← bigSep_univ_prod (fun x : Dev nD × Fin 32 => (dutyTok ER (recvCell x.1 x.2) 0 0 : sProp (MM F))), bigSep_univ_equiv recvE, bigSep_univ_prod]; rfl
  unfold toks payToks
  rw [bigSep_sep', bigSep_sep', bigSep_sep', bigSep_sep', e1, e3]

omit [FloatOps F] in
theorem with_persistent {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => atPos ER (kcell (c, k)) 0 ∅ 0) ∗ (bigSep Finset.univ fun k => reached ER (kcell (c, k)) 0) ∗ toks c ∗ wsems c) : sProp (MM F))
      ⊢ bigSep Finset.univ fun c => iprop(G' m ρ c ∗ wsems c) := by
  rw [bigSep_sep', bigSep_sep', bigSep_sep', bigSep_sep', bigSep_sep',
    ← bigSep_univ_prod (fun ck : Dev nD × Option (Bool × Fin 32) => iprop(∃ κ : ℕ, cellInv ER (Rd m ρ) κ (kcell ck))),
    ← bigSep_univ_prod (fun ck : Dev nD × Option (Bool × Fin 32) => (reached ER (kcell ck) 0 : sProp (MM F)))]
  iintro ⟨HI, Hat, #HR, Htok, Hw⟩
  isplitr [Hw]
  · ihave HK := (BI.bigSep_exists_pi Finset.univ (fun (ck : Dev nD × Option (Bool × Fin 32)) (κ : ℕ) => (cellInv ER (Rd m ρ) κ (kcell ck) : sProp (MM F)))) $$ HI
    icases HK with ⟨%K, #HI⟩
    ihave Htk := (toks_around (F := F)) $$ Htok
    iapply (with_persistent (R := recs0 m ρ K) (Φ := linear) (Ψ := G' m ρ) fun c _ => by
      unfold G'; iintro H; iexists K; iexact H)
    isplitr
    · unfold recs0; isplitl; · iexact HI
      iexact HR
    · iapply ((Entails.of_eq (bigSep_sep' Finset.univ (fun c : Dev nD => bigSep Finset.univ fun k => (atPos ER (kcell (c, k)) 0 ∅ 0 : sProp (MM F))) payToks).symm).trans
        (bigSep_mono fun c _ => show _ ⊢ linear c from Entails.of_eq (by unfold linear; rw [bigSep_kinds]; rfl)))
      isplitl [Hat]; · iexact Hat
      iexact Htk
  iexact Hw

theorem glob : (bigSep Finset.univ fun c => iprop(Pipeline.ownSems0 (Ix := Unit) (Name := ℕ) (U := UU) (Lvl := ℕ) (Val := Elt F) (τ := τ) osem c ∗ unscopedSems0 c ∗ G m ρ c) : sProp (MM F))
    ⊢ |={Set.univ}=> bigSep Finset.univ fun c => iprop(G' m ρ c ∗ wsems c) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {t s : Fin 32} : Iff (recvCell a t = recvCell b s) (a = b ∧ t = s) :=
  ⟨fun h => by
    have := kcell_injective (a₁ := (a, some (true, t))) (a₂ := (b, some (true, s))) h
    simpa using this, fun h => by rw [h.1, h.2]⟩
theorem bar_ne_recv {a b : Dev nD} {t : Fin 32} : barCell a ≠ recvCell b t := fun h => by
  have := kcell_injective (a₁ := (a, none)) (a₂ := (b, some (true, t))) h
  simp at this

theorem sub_iff : ∀ c d t : Fin 32, (c = d + t) ↔ (d = c - t) := by decide

theorem owed_bar (d c : Dev nD) : Osig d 1 (barCell c) () = ∑ t ∈ stretch 32 1 32, if d = (c - t : Fin 32) then 1 else 0 := by
  unfold Osig Orecv
  rw [Pi.add_apply, Finsupp.add_apply, Finset.sum_apply, Finset.sum_apply, Finsupp.finset_sum_apply, Finsupp.finset_sum_apply,
    Finset.sum_eq_zero fun t _ => by rw [tallyAt_apply, if_neg fun h => bar_ne_recv h.1], Nat.zero_add]
  refine Finset.sum_congr rfl fun t _ => ?_
  rw [tallyAt_apply]
  by_cases h : d = (c - t : Fin 32)
  · rw [if_pos h, if_pos ⟨bar_eq_iff.mpr ((sub_iff c d t).mpr h), rfl⟩]
  · rw [if_neg h, if_neg fun h' => h ((sub_iff c d t).mp (bar_eq_iff.mp h'.1))]

theorem owed_recv (d c : Dev nD) (t : Fin 32) (ht : t ∈ stretch 32 1 32) : Osig d 1 (recvCell c t) () = if d = (c - t : Fin 32) then N else 0 := by
  unfold Osig Orecv
  rw [Pi.add_apply, Finsupp.add_apply, Finset.sum_apply, Finset.sum_apply, Finsupp.finset_sum_apply, Finsupp.finset_sum_apply,
    Finset.sum_eq_zero (s := stretch 32 1 32) (f := fun s : Fin 32 => (tallyAt (barCell (d + s : Fin 32)) () 1 : CellTallies nD τ sig Unit) (recvCell c t) ())
      fun s _ => by rw [tallyAt_apply, if_neg fun h => bar_ne_recv h.1.symm], Nat.add_zero,
    Finset.sum_eq_single_of_mem t ht fun s _ hs => by rw [tallyAt_apply, if_neg fun h => hs (recv_eq_iff.mp h.1).2.symm], tallyAt_apply]
  by_cases h : d = (c - t : Fin 32)
  · rw [if_pos h, if_pos ⟨recv_eq_iff.mpr ⟨(sub_iff c d t).mpr h, rfl⟩, rfl⟩]
  · rw [if_neg h, if_neg fun h' => h ((sub_iff c d t).mp (recv_eq_iff.mp h'.1).1)]

abbrev O₀ (c : Dev nD) : CellTallies nD τ sig Unit := Osig c 1

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  rw [Finset.sum_congr rfl fun t _ => by rw [Finset.sum_ite_eq' Finset.univ (c - t : Fin 32) fun _ => 1, if_pos (Finset.mem_univ _)], Finset.sum_const, smul_eq_mul]
  decide

theorem launch_recv (c : Dev nD) (t : Fin 32) (ht : t ∈ stretch 32 1 32) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t ht, Finset.sum_ite_eq' Finset.univ (c - t : Fin 32) fun _ => N,
    if_pos (Finset.mem_univ _)]

theorem recvSem_inj : Function.Injective fun t : Fin 32 => (SemLoc.dma (recvS t) : SemLoc sig) := fun t t' h => by
  have := csem_inj (a₁ := some (true, t)) (a₂ := some (true, t')) h
  simpa using this

omit [FloatOps F] in
theorem creds_intro (c : Dev nD) : (Pipeline.launchCred O₀ c : sProp (MM F)) ⊢ creds c := by
  unfold Pipeline.launchCred creds
  rw [bigSep_univ_at _ (SemLoc.reg barS), launch_bar]
  refine sep_mono_right ?_
  refine BIBase.Entails.trans (bigSep_subset (t := (stretch 32 1 32).map ⟨_, recvSem_inj⟩) ?_) ?_
  · intro s hs
    obtain ⟨t, _, rfl⟩ := Finset.mem_map.mp hs
    exact Finset.mem_erase.mpr ⟨(fun h => by cases h), Finset.mem_univ _⟩
  · rw [bigSep_map]
    exact bigSep_mono fun t ht => Entails.of_eq (congrArg cred (launch_recv c t ht))

end Cert.AllToAll

end
-- ==== Proof.Launch.lean ====
/-
# The launch: every fair run of the program ends, with the result at the computed contents
-/
module

public import proofs.«01_k».proof.Proof.Ghost
public import Idealize.ShloMosaic.Lib.Pipeline.CollectiveSegs

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable (m : (ℓ : Loc nD τ sig) → Buf (Elt F) ℓ) (ρ : Dev nD → PrngReg)

/-! ## The region's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outv m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

omit [FloatOps F] in
theorem windows (Φ : Fin cfg0.W → sProp (MM F)) : bigSep Finset.univ Φ = iprop(Φ (0 : Fin 4) ∗ Φ (1 : Fin 4) ∗ Φ (2 : Fin 4) ∗ Φ (3 : Fin 4)) := bigSep_W0 Φ

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))

def bodyPre (c : Dev nD) : sProp (MM F) :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

def bodyPost (c : Dev nD) : sProp (MM F) :=
  iprop(Φ₁ m ρ c ∗ (dats m ρ 0 c).owesAt () t0_0.succ
    ∗ stg c cc0_stg0_0 (xstg m ρ c) ∗ stg c cc0_stg1_0 (sxstg m ρ c) ∗ stg c cc0_stg2_0 (swstg m ρ c) ∗ stg c cc0_stg3_0 (outv m ρ c))

theorem pre_intro (c : Dev nD) : bodyPre m ρ c ⊢ iprop(Φ₀ m ρ c ∗ (∃ W, owes (c : Thread nD τ) (Osig c 1) W) ∗ stgX m ρ c ∗ stgS m ρ c ∗ outAny c) := by
  unfold bodyPre Dat.owesAt Pipeline.owesWithin stgX stgS outAny
  iintro ⟨HΦ, ⟨%W, %hW, Ho⟩, ⟨%d0, %g0, %hg0, H0⟩, ⟨%d1, %g1, %hg1, H1⟩, ⟨%d2, %g2, %hg2, H2⟩, ⟨%d3, %g3, %hg3, H3⟩⟩
  have h0 : g0 = xstg m ρ c := by rw [hg0]; unfold Dat.before; rw [if_pos (fetch_0 t0_0)]; rfl
  have h1 : g1 = sxstg m ρ c := by rw [hg1]; unfold Dat.before; rw [if_pos (fetch_1 t0_0)]; rfl
  have h2 : g2 = swstg m ρ c := by rw [hg2]; unfold Dat.before; rw [if_pos (fetch_2 t0_0)]; rfl
  subst h0 h1 h2
  isplitl [HΦ]; · iexact HΦ
  isplitl [Ho]; · iexists W; iexact Ho
  isplitl [H0]; · iexact H0
  isplitl [H1 H2]
  · isplitl [H1]; · iexact H1
    iexact H2
  iexists g3; iexact H3

theorem post_intro (c : Dev nD) : iprop(Φ₁ m ρ c ∗ (∃ W, owes (c : Thread nD τ) 0 W) ∗ stgX m ρ c ∗ stgS m ρ c ∗ outIs m ρ c) ⊢ bodyPost m ρ c := by
  unfold bodyPost Dat.owesAt Pipeline.owesWithin stgX stgS outIs
  rw [show (dats m ρ 0 c).owed t0_0.succ = 0 from rfl]
  iintro ⟨HΦ, ⟨%W, Ho⟩, H0, ⟨H1, H2⟩, H3⟩
  isplitl [HΦ]; · iexact HΦ
  isplitl [Ho]
  · iexists W
    isplitr; · ipureintro; exact fun _ _ => Or.inl trivial
    iexact Ho
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem body_wp (c : Dev nD) : bodyPre m ρ c
    ⊢ WP c (cc0_body (F := F) (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) (fun _ => bodyPost m ρ c) := by
  refine (pre_intro m ρ c).trans ((body_pre m ρ c).trans ?_)
  iintro ⟨%K, H⟩
  iapply (body_run m ρ K c (Rest c) (bodyPost m ρ c) ((body_post m ρ K c).trans (BI.fupd_mono (post_intro m ρ c))))
  iexact H

theorem body_obligation (c : Dev nD) : BodyObligation (dats (F := F) m ρ 0 c) (defs₀ (F := F)) 𝒱₀ () Set.univ := fun t => by
  rw [fin_N0 t]
  rw [windows, windows]
  simp only [owns_whole]
  exact body_wp m ρ c

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (G' m ρ c ∗ wsems c))
      ⊢ |={Set.univ}=> iprop(start m ρ c ∗ emp) := by
  rw [Pipeline.unscopedRestP_none, show (Pipeline.unscopedRest cfg0.spec c (fun b => m ((c : Thread nD τ).loc b)) : sProp (MM F)) = _ from unscopedRest0_eq c _]
  unfold start G' recs0 recs
  iintro ⟨Hw, Hlev, Hcr, -, ⟨%K, ⟨#HI, #HR⟩, Hlin⟩, Hws⟩
  ihave Hc := (creds_intro (F := F) c) $$ Hcr
  imodintro
  isplitl
  · isplitl [Hlev Hlin]
    · iexists K
      isplitl [Hlev]
      · isplitr; · iexact HI
        isplitr; · iexact HR
        iexact Hlev
      iexact Hlin
    isplitl [Hws]; · iexact Hws
    isplitl [Hc]; · iexact Hc
    iexact Hw
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp (MM F)) = _ from scopedRest0_eq c]
  unfold Φ₀ scr xeAny
  iintro ⟨Hs, -, Hr⟩
  isplitl [Hs]; · iexact Hs
  iexact Hr

/-- What a device hands back at the end: its barrier semaphore at zero and the weights as they were. -/
def Y (c : Dev nD) : sProp (MM F) := iprop(unscopedSems0 c ∗ (wL c ↦{fullShare} wArr m ρ c))

theorem phi1_exit (c : Dev nD) :
    (dats m ρ 0 c).Φ (Fin.last cfg0.N) ⊢ iprop(Y m ρ c ∗ Pipeline.ownSems0 osem c ∗ Pipeline.scopedRest cfg0.spec c) := by
  rw [show (dats m ρ 0 c).Φ (Fin.last cfg0.N) = Φ₁ m ρ c from rfl, show (Pipeline.scopedRest cfg0.spec c : sProp (MM F)) = _ from scopedRest0_eq c, ownSems0_eq]
  unfold Φ₁ Y scr xeAny
  rw [unscopedSems0_eq]
  iintro ⟨Hr, Hs, HzB, Hw⟩
  isplitl [HzB Hw]
  · isplitl [HzB]; · iexact HzB
    iexact Hw
  isplitl [Hs]; · iexact Hs
  iexact Hr

theorem waits (c : Dev nD) : (levAts L lv : sProp (MM F)) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem w_read (c : Dev nD) (s' : Phys nD τ sig (Elt F)) : iprop(SI s' ∗ (wL c ↦{fullShare} wArr m ρ c)) ⊢ (⌜s'.mem.mem (wL c) = m (wL c)⌝ : sProp (MM F)) :=
  BIBase.Entails.trans SI_pointsTo_agree (Laws.pure_mono fun h => funext fun i => h i (Finset.mem_univ i))

/-! ## The run -/

def finalA (c : Dev nD) (w : Fin cfg0.W) : Buf (Elt F) ((cfg0.win w).arr.view.loc (c : Thread nD τ)) := (dats m ρ 0 c).arrAt w cfg0.N

/-- Every device's arrays at the computed contents, its weights unchanged. -/
def QC : PUnit × MemSt nD τ sig (Elt F) → Prop := fun r =>
  ∀ c : Dev nD, (∀ w : Fin cfg0.W, r.2.mem ((cfg0.win w).arr.view.loc (c : Thread nD τ)) = finalA m ρ c w) ∧ r.2.mem (wL c) = m (wL c)

/-- At the mesh of thirty-two devices, for any float values, from any memory with zero counters: every fair run of the
    program ends, every device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := fun c => iprop(G' m ρ c ∗ wsems c)) (u₀ := u₀)
    (hu₀ := by
      unfold u₀
      iintro Hu
      ihave H := (ownU_parts _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := Y m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem (wL c) = m (wL c))
    (hY := fun c s' => by
      unfold Y
      iintro ⟨⟨Hu, Hw⟩, -, HSI⟩
      ihave %hw := (w_read m ρ c s') $$ [HSI Hw]
      · isplitl [HSI] <;> iassumption
      imod (Pipeline.unscopedSems0_read (X := unscopedSems0 c) (c := c) fupd_intro s') $$ [Hu HSI] with ⟨%hs, HSI⟩
      · isplitl [Hu] <;> iassumption
      imodintro
      isplitr; · ipureintro; exact ⟨hs, hw⟩
      iexact HSI)
    (hQ := fun _ h hs => ⟨fun c => ⟨fun w => (h c).1 w, (h c).2.2.2⟩, sem_eq_zero hs fun c => (h c).2.2.1⟩)

theorem finalA_x (c : Dev nD) : finalA m ρ c (0 : Fin 4) = (s₀ m ρ).mem (win0_0.arr.view.loc (c : Thread nD τ)) :=
  (dats (F := F) m ρ 0 c).arrAt_in (0 : Fin 4) rfl _
theorem finalA_sx (c : Dev nD) : finalA m ρ c (1 : Fin 4) = (s₀ m ρ).mem (win0_1.arr.view.loc (c : Thread nD τ)) :=
  (dats (F := F) m ρ 0 c).arrAt_in (1 : Fin 4) rfl _
theorem finalA_sw (c : Dev nD) : finalA m ρ c (2 : Fin 4) = (s₀ m ρ).mem (win0_2.arr.view.loc (c : Thread nD τ)) :=
  (dats (F := F) m ρ 0 c).arrAt_in (2 : Fin 4) rfl _

end Cert.AllToAll

end
-- ==== Proof.Same.lean ====
/-
# The two printed programs are one text
-/
module

public import proofs.«01_k».proof.Proof.Gen.Kernel
public import proofs.«01_k».proof.Proof.Gen.KernelIdeal
public import proofs.«01_k».proof.Proof.Gen.Kernel.Launch
public import proofs.«01_k».proof.Proof.Gen.KernelIdeal.Launch
public import Idealize.ShloMosaic.PureOps.BitExact

@[expose] public section

set_option maxRecDepth 16384

noncomputable section

namespace Cert.AllToAll

open Idealize.ShloMosaic

theorem body_eq : Cert.Kernel.cc0_body (F := Bits) = Cert.KernelIdeal.cc0_body (F := Bits) := rfl

theorem defs₀_eq : Cert.Kernel.defs₀ (F := Bits) = Cert.KernelIdeal.defs₀ (F := Bits) := by
  unfold Cert.Kernel.defs₀ Cert.KernelIdeal.defs₀
  congr 1
  funext l a
  match l, a with
  | ⟨0, _⟩, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [defs₀_eq]
  rfl

theorem main_eq : Cert.Kernel.main (F := Bits) = Cert.KernelIdeal.main (F := Bits) := rfl

end Cert.AllToAll

end
-- ==== Proof.Extended.lean ====
/-
# Facts about extended reals

The absolute value of a sum, the clip of a number that lies inside it, the two spellings of `y * sigmoid(y)`, and sums cut
into equal pieces.
-/
module

public import Idealize.ShloMosaic.Lib.IdealHost
public import Mathlib.Data.EReal.Inv

@[expose] public section

noncomputable section

namespace Cert.AllToAll

open Idealize.ShloMosaic
open scoped ENNReal

/-- The larger of a number and its negation is its absolute value. -/
theorem max_neg_abs (x : EReal) : max x (-x) = (x.abs : EReal) := by
  induction x with
  | bot => simp
  | top => simp
  | coe r =>
    rw [EReal.coe_abs, ← EReal.coe_neg]
    exact (EReal.coe_strictMono.monotone.map_max).symm

theorem abs_add_le (a b : EReal) : (a + b).abs ≤ a.abs + b.abs := by
  induction a with
  | bot => simp
  | top => simp
  | coe r =>
    induction b with
    | bot => simp
    | top => simp
    | coe s =>
      rw [← EReal.coe_add, EReal.abs_def, EReal.abs_def, EReal.abs_def, ← ENNReal.ofReal_add (abs_nonneg _) (abs_nonneg _)]
      exact ENNReal.ofReal_le_ofReal (_root_.abs_add_le _ _)

theorem abs_sum_le {ι : Type} (s : Finset ι) (f : ι → EReal) : (∑ i ∈ s, f i).abs ≤ ∑ i ∈ s, (f i).abs := by
  classical
  induction s using Finset.induction_on with
  | empty => simp
  | insert a s h ih =>
    rw [Finset.sum_insert h, Finset.sum_insert h]
    exact (abs_add_le _ _).trans (add_le_add le_rfl ih)

theorem coe_sum {ι : Type} (s : Finset ι) (f : ι → ℝ≥0∞) : ∑ i ∈ s, (f i : EReal) = ((∑ i ∈ s, f i : ℝ≥0∞) : EReal) := by
  classical
  induction s using Finset.induction_on with
  | empty => simp
  | insert a s h ih => rw [Finset.sum_insert h, Finset.sum_insert h, ih, EReal.coe_ennreal_add]

/-- The clip changes nothing inside its bounds. -/
theorem clip_eq (y : EReal) (h : y.abs ≤ 60) : min (((60 : ℝ)) : EReal) (max ((-60 : ℝ) : EReal) y) = y := by
  have hy : max y (-y) ≤ ((60 : ℝ) : EReal) := by
    rw [max_neg_abs]
    have : ((60 : ℝ≥0∞) : EReal) = ((60 : ℝ) : EReal) := rfl
    rw [← this]
    exact EReal.coe_ennreal_le_coe_ennreal_iff.mpr h
  have h1 : y ≤ ((60 : ℝ) : EReal) := (le_max_left _ _).trans hy
  have h2 : ((-60 : ℝ) : EReal) ≤ y := by
    have := (le_max_right _ _).trans hy
    rw [EReal.coe_neg]
    exact EReal.neg_le_of_neg_le this
  rw [max_eq_right h2, min_eq_right h1]

theorem exp_nonneg (y : EReal) : 0 ≤ Ideal.exp y := by
  induction y with
  | bot => exact le_rfl
  | top => exact le_top
  | coe r => exact EReal.coe_nonneg.mpr (Real.exp_pos r).le

theorem one_add_exp_ne (y : EReal) : (1 : EReal) + Ideal.exp y ≠ 0 := fun h => by
  have h1 : (1 : EReal) ≤ 1 + Ideal.exp y := le_add_of_nonneg_right (exp_nonneg y)
  rw [h] at h1
  exact absurd h1 (by norm_num)

/-- `y * sigmoid(y)` is `y / (1 + exp(-y))`. -/
theorem mul_logistic (y : EReal) : y * Ideal.logistic y = Ideal.div y (1 + Ideal.exp (-y)) := by
  unfold Ideal.logistic Ideal.div
  rw [if_neg (one_add_exp_ne _), if_neg (one_add_exp_ne _), one_mul]

/-- A sum over `a` pieces of `b` is one sum. -/
theorem sum_split (a b : ℕ) (H : ℕ → EReal) : ∑ g : Fin a, ∑ j : Fin b, H (b * g.val + j.val) = ∑ k : Fin (a * b), H k.val := by
  rw [← Fintype.sum_prod_type']
  exact Fintype.sum_equiv finProdFinEquiv _ _ fun p => congrArg H (Nat.add_comm _ _)

end Cert.AllToAll

end
-- ==== Proof.Value.lean ====
/-
# What the run leaves, at the ideal values

Every format change is the identity there, so a device's block of the result is the whole product's rows, scaled, times
its logistic.
-/
module

public import proofs.«01_k».proof.Proof.Launch
public import proofs.«01_k».proof.Proof.Extended
public import Idealize.ShloMosaic.Lib.MatmulPlain
public import Idealize.ShloMosaic.Lib.ValueLayout
public import Idealize.ShloMosaic.Lib.Layout

@[expose] public section

set_option maxRecDepth 16384

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

/-! ## One group -/

/-- The product of a group's two operands. -/
theorem group_apply (xf : FVec Ideal S128x512 .bf16) (wf : Vec Ideal S1x512x2048 .f32) (r : Fin 128) (n : Fin 2048) :
    matmul dot_S128x512_S512x2048_S128x2048_1_0_0_1_n_n none xf (truncf .bf16 (shapeCast S512x2048 wf shapeCasts_S1x512x2048_S512x2048) bitsLt_bf16_f32)
        (constant S128x2048 .f32 0x00000000#32) (ix2 r n)
      = ∑ j : Fin 512, (xf (ix2 r j) : EReal) * (wf (ix3 (0 : Fin 1) j n) : EReal) := by
  refine (Ideal.matmul_plain_apply (M := 128) (K := 512) (N := 2048) none xf _ _ r n).trans ?_
  show Ideal.ofBits .f32 0x00000000#32 + _ = _
  rw [Ideal.ofBits_zero_f32, zero_add]
  refine Finset.sum_congr rfl fun j _ => congrArg ((xf (ix2 r j) : EReal) * ·) ?_
  exact ValueIdx.shapeCast_1ab_ab_apply wf shapeCasts_S1x512x2048_S512x2048 j n

section
variable (acc : FVec Ideal S128x2048 .f32) (xf : Vec Ideal S128x512 .fp8e4m3) (wf : Vec Ideal S1x512x2048 .f32) (r : Fin 128) (n : Fin 2048)

/-- What a group adds. -/
def grp : EReal := ∑ j : Fin 512, (xf (ix2 r j) : EReal) * (wf (ix3 (0 : Fin 1) j n) : EReal)

theorem pay4_apply : k0_pay4 acc xf wf (ix2 r n) = (acc (ix2 r n) : EReal) + grp xf wf r n := congrArg ((acc (ix2 r n) : EReal) + ·) (group_apply _ wf r n)
theorem pay5_apply : k0_pay5 acc xf wf (ix2 r n) = (acc (ix2 r n) : EReal) + grp xf wf r n := congrArg ((acc (ix2 r n) : EReal) + ·) (group_apply _ wf r n)
theorem pay6_apply : k0_pay6 acc xf wf (ix2 r n) = (acc (ix2 r n) : EReal) + grp xf wf r n := congrArg ((acc (ix2 r n) : EReal) + ·) (group_apply _ wf r n)
theorem pay7_apply : k0_pay7 acc xf wf (ix2 r n) = (acc (ix2 r n) : EReal) + grp xf wf r n := congrArg ((acc (ix2 r n) : EReal) + ·) (group_apply _ wf r n)
theorem pay8_apply : k0_pay8 acc xf wf (ix2 r n) = (acc (ix2 r n) : EReal) + grp xf wf r n := congrArg ((acc (ix2 r n) : EReal) + ·) (group_apply _ wf r n)
theorem pay9_apply : k0_pay9 acc xf wf (ix2 r n) = (acc (ix2 r n) : EReal) + grp xf wf r n := congrArg ((acc (ix2 r n) : EReal) + ·) (group_apply _ wf r n)
theorem pay11_apply : k0_pay11 acc (k0_pay10 xf) wf (ix2 r n) = (acc (ix2 r n) : EReal) + grp xf wf r n := congrArg ((acc (ix2 r n) : EReal) + ·) (group_apply _ wf r n)
theorem pay3_apply : k0_pay3 (F := Ideal) (ix2 r n) = (0 : EReal) := Ideal.ofBits_zero_f32
theorem pay12_apply (a b : Elt Ideal .f32) :
    k0_pay12 acc xf wf a b (ix2 r n)
      = (((acc (ix2 r n) : EReal) + grp xf wf r n) * ((a : EReal) * (b : EReal))) * Ideal.logistic (((acc (ix2 r n) : EReal) + grp xf wf r n) * ((a : EReal) * (b : EReal))) :=
  congrArg (fun y : EReal => (y * ((a : EReal) * (b : EReal))) * Ideal.logistic (y * ((a : EReal) * (b : EReal))))
    (congrArg ((acc (ix2 r n) : EReal) + ·) (group_apply _ wf r n))
end

/-! ## The whole sum -/

variable (m : (ℓ : Loc nD τ sig) → Buf (Elt Ideal) ℓ) (ρ : Dev nD → PrngReg) (c : Dev nD) (r : Fin 128) (n : Fin 2048)

/-- The arguments as arrays of extended reals. -/
def xA (d : Dev nD) : S4096x128.Idx → EReal := m ((d : Thread nD τ).loc main_arg0)
def wA (d : Dev nD) : S4096x2048.Idx → EReal := m ((d : Thread nD τ).loc main_arg1)
def sA (d : Dev nD) : EReal := (show S1.Idx → EReal from m ((d : Thread nD τ).loc main_arg2)) (ValueIdx.ix1 (0 : Fin 1)) * (show S1.Idx → EReal from m ((d : Thread nD τ).loc main_arg3)) (ValueIdx.ix1 (0 : Fin 1))

theorem row_lt (d : Dev nD) (k : ℕ) (h : k < 128) : 128 * d.val + k < 4096 := by
  have : d.val < 32 := d.isLt
  omega

/-- What device `d`'s columns contribute to entry `(r, n)` of device `c`'s block. -/
def part (d : Dev nD) : EReal :=
  ∑ k : Fin 128, xA m d (ix2 ⟨128 * c.val + r.val, row_lt c _ r.isLt⟩ k) * wA m c (ix2 ⟨128 * d.val + k.val, row_lt d _ k.isLt⟩ n)
def dotv : EReal := ∑ d : Dev nD, part m c r n d

/-- Term `K` of the sum in the order the kernel takes it. -/
def term (K : ℕ) : EReal :=
  xA m (c - Fin.ofNat 32 (K / 128) : Fin 32) (ix2 ⟨128 * c.val + r.val, row_lt c _ r.isLt⟩ ⟨K % 128, Nat.mod_lt _ (by decide)⟩)
    * wA m c (ix2 ⟨128 * (c - Fin.ofNat 32 (K / 128) : Fin 32).val + K % 128, row_lt _ _ (Nat.mod_lt _ (by decide))⟩ n)

theorem xstg_eq (d : Dev nD) : xstg m ρ d = xA m d := by
  have hz : (fun a => (win0_0.index (0 : Fin 1)) a * S4096x128.size a) = fun _ => 0 := funext fun a => by fin_cases a <;> rfl
  exact Memref.read_access_unit_zero (Elt Ideal) main_arg0 hz _ _

theorem x8_apply (d : Dev nD) (i : S4096x128.Idx) : (x8 m ρ d i : EReal) = xA m d i := by
  unfold x8 k0_pay1
  show (shapeCast S4096x128 (truncf .fp8e4m3 (shapeCast S4096x128 (xstg m ρ d) shapeCasts_S4096x128_S4096x128) bitsLt_fp8e4m3_f32) shapeCasts_S4096x128_S4096x128) i = _
  rw [shapeCast_self, shapeCast_self, xstg_eq]
  rfl

theorem grp_apply (g : Fin 8) : grp (xv m ρ c g) (wv m ρ c g) r n = ∑ j : Fin 512, term m c r n (512 * g.val + j.val) := by
  refine Finset.sum_congr rfl fun j _ => ?_
  have hj : j.val < 512 := j.isLt
  have hd : 4 * g.val + j.val / 128 = (512 * g.val + j.val) / 128 := by omega
  have hm : j.val % 128 = (512 * g.val + j.val) % 128 := by omega
  refine congrArg₂ (fun a b : EReal => a * b) ?_ ?_
  · exact x8_apply m ρ _ _
  · show wA m c (ix2 ⟨128 * (c - Fin.ofNat 32 (4 * g.val + j.val / 128) : Fin 32).val + j.val % 128, _⟩ n) = _
    refine congrArg (fun i => wA m c (ix2 i n)) (Fin.ext ?_)
    show 128 * (c - Fin.ofNat 32 (4 * g.val + j.val / 128) : Fin 32).val + j.val % 128 = _
    rw [hd, hm]

theorem sub_sub_self' : ∀ c t : Fin 32, c - (c - t) = t := by decide
theorem ofNat_val : ∀ t : Fin 32, (Fin.ofNat 32 t.val : Fin 32) = t := by decide

theorem term_apply (t : Fin 32) (k : Fin 128) : term m c r n (128 * t.val + k.val)
    = xA m (c - t : Fin 32) (ix2 ⟨128 * c.val + r.val, row_lt c _ r.isLt⟩ k) * wA m c (ix2 ⟨128 * (c - t : Fin 32).val + k.val, row_lt _ _ k.isLt⟩ n) := by
  have hd : (128 * t.val + k.val) / 128 = t.val := by have := k.isLt; omega
  have hm : (128 * t.val + k.val) % 128 = k.val := by have := k.isLt; omega
  have he : (Fin.ofNat 32 ((128 * t.val + k.val) / 128) : Fin 32) = t := by rw [hd]; exact ofNat_val t
  have hk : (⟨(128 * t.val + k.val) % 128, Nat.mod_lt _ (by decide)⟩ : Fin 128) = k := Fin.ext hm
  unfold term
  refine congrArg₂ (fun a b : EReal => a * b) ?_ ?_
  · rw [he, hk]
  · refine congrArg (fun i => wA m c (ix2 i n)) (Fin.ext ?_)
    show 128 * (c - Fin.ofNat 32 ((128 * t.val + k.val) / 128) : Fin 32).val + (128 * t.val + k.val) % 128 = _
    rw [he, hm]

/-- The groups together are the sum over the devices. -/
theorem groups_sum : ∑ g : Fin 8, ∑ j : Fin 512, term m c r n (512 * g.val + j.val) = dotv m c r n := by
  rw [sum_split 8 512 (term m c r n)]
  have h := sum_split 32 128 (term m c r n)
  refine Eq.trans (show _ = _ from h.symm) ?_
  refine Eq.trans (Finset.sum_congr rfl fun t _ => Finset.sum_congr rfl fun k _ => term_apply m c r n t k) ?_
  exact Fintype.sum_equiv (Function.Involutive.toPerm (fun t : Fin 32 => (c - t : Fin 32)) (sub_sub_self' c)) _ (part m c r n) fun t => rfl

theorem acc7_apply : (acc7 m ρ c (ix2 r n) : EReal) + grp (xv m ρ c 7) (wv m ρ c 7) r n = dotv m c r n := by
  rw [← groups_sum, ← Finset.sum_congr rfl fun g _ => grp_apply m ρ c r n g]
  unfold acc7 acc6 acc5 acc4 acc3 acc2 acc1
  rw [pay11_apply, pay9_apply, pay8_apply, pay7_apply, pay6_apply, pay5_apply, pay4_apply, pay3_apply, zero_add]
  simp only [Fin.sum_univ_eight]

theorem sxstg_eq : sxstg m ρ c = m ((c : Thread nD τ).loc main_arg2) := by
  have hz : (fun a => (win0_1.index (0 : Fin 1)) a * S1.size a) = fun _ => 0 := funext fun a => by fin_cases a; rfl
  exact Memref.read_access_unit_zero (Elt Ideal) main_arg2 hz _ _
theorem swstg_eq : swstg m ρ c = m ((c : Thread nD τ).loc main_arg3) := by
  have hz : (fun a => (win0_2.index (0 : Fin 1)) a * S1.size a) = fun _ => 0 := funext fun a => by fin_cases a; rfl
  exact Memref.read_access_unit_zero (Elt Ideal) main_arg3 hz _ _

theorem first_S1 : Shape.Idx.first (numel1_S1.symm ▸ Nat.one_pos) = (ValueIdx.ix1 (0 : Fin 1) : S1.Idx) := by
  funext a; fin_cases a; exact Subsingleton.elim (α := Fin 1) _ _

/-- An entry of the block a device leaves. -/
theorem outv_apply : (outv m ρ c (ix2 r n) : EReal) = dotv m c r n * sA m c * Ideal.logistic (dotv m c r n * sA m c) := by
  unfold outv
  rw [pay12_apply, acc7_apply, sxstg_eq, swstg_eq, first_S1]
  rfl

/-- The result array is that block. -/
theorem finalA_out : finalA m ρ c (3 : Fin 4) = outv m ρ c := by
  have h : (win0_3.blk (0 : Fin 1)).view.read (Elt Ideal) (finalA m ρ c (3 : Fin 4)) = outv m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * S128x2048.size a) = fun _ => 0 := funext fun a => by fin_cases a <;> rfl
  exact (Memref.read_access_unit_zero (Elt Ideal) main_v1 hz _ _).symm.trans h

end Cert.AllToAll

end
-- ==== Proof.Bound.lean ====
/-
# What the precondition says

Each row's sum of absolute values, times the largest weight, times the scale, is at most sixty over thirty-two.
-/
module

public import proofs.«01_k».proof.Proof.Extended
public import proofs.«01_k».proof.Proof.Gen.Pre_bounded_KernelIdeal
public import Idealize.ShloMosaic.Lib.ReduceAll
public import Idealize.ShloMosaic.Lib.Pointwise.Reduce
public import Idealize.ShloMosaic.Lib.StableHlo.Predicate
public import Idealize.ShloMosaic.Lib.IdealHost
public import Idealize.ShloMosaic.Lib.Pipeline.Value

@[expose] public section

noncomputable section

namespace Cert.AllToAll

open Idealize.ShloMosaic
open Cert.Pre_bounded_KernelIdeal Cert.Pre_bounded_KernelIdeal.Gen
open scoped ENNReal

theorem ofBits_bound : Ideal.ofBits .f32 0x3FF00000#32 = ((15 / 8 : ℝ) : EReal) := by
  simp [Ideal.ofBits, Ideal.ieee, -EReal.coe_mul]; norm_num
theorem ofBits_60 : Ideal.ofBits .f32 0x42700000#32 = ((60 : ℝ) : EReal) := by
  simp [Ideal.ofBits, Ideal.ieee, -EReal.coe_mul]; norm_num
theorem ofBits_neg60 : Ideal.ofBits .f32 0xC2700000#32 = ((-60 : ℝ) : EReal) := by
  simp [Ideal.ofBits, Ideal.ieee, -EReal.coe_mul, -EReal.coe_neg]; norm_num

variable (x : FVec Ideal S4096x128 .f32) (w : FVec Ideal S4096x2048 .f32) (sx sw : FVec Ideal S1 .f32)

/-- The largest weight. -/
def wmax : EReal :=
  (Host.reduce FloatOps.maximumf (Host.absf w) (constant S_ .f32 0xFF800000#32 : FVec Ideal S_ .f32) Facts.reducesTo_S4096x2048_S_d0_1 Facts.h_S_ : FVec Ideal S_ .f32) ValueIdx.ix0

theorem le_wmax (i : S4096x2048.Idx) : (((w i : EReal).abs : ℝ≥0∞) : EReal) ≤ wmax w := by
  unfold wmax
  rw [Host.reduce_eq_fold, ← max_neg_abs]
  show _ ≤ Finset.fold max _ _ _
  exact (Finset.le_fold_max _).mpr (Or.inr ⟨i, Finset.mem_filter.mpr ⟨Finset.mem_univ _, funext fun a => a.elim0⟩, le_rfl⟩)

/-- The comparison at a row, of any row sums, any scalar and any scale. -/
theorem row_core (A : FVec Ideal S4096 .f32) (M : FVec Ideal S_ .f32) (T : FVec Ideal S1 .f32) (R : Fin 4096)
    (h : cmpf .ole (mulf A (broadcastInDim S4096 ![0] Facts.bcast_S1_S4096_0 (mulf (broadcastInDim S1 ![] Facts.bcast_S_S1 M) T)))
      (broadcastInDim S4096 ![] Facts.bcast_S_S4096 (constant S_ .f32 0x3FF00000#32 : FVec Ideal S_ .f32)) (ValueIdx.ix1 R) = 1#1) :
    (A (ValueIdx.ix1 R) : EReal) * ((M ValueIdx.ix0 : EReal) * (T (ValueIdx.ix1 (0 : Fin 1)) : EReal)) ≤ ((15 / 8 : ℝ) : EReal) := by
  have h2 := of_decide_eq_true ((StableHlo.Predicate.ofBool_eq_one_iff _).mp h)
  have e1 := ValueIdx.broadcastInDim_scalar_apply (Facts.bcast_S_S4096) (constant S_ .f32 0x3FF00000#32 : FVec Ideal S_ .f32) (ValueIdx.ix1 R)
  have e2 := ValueIdx.broadcastInDim_scalar_apply (Facts.bcast_S_S1) M (ValueIdx.ix1 (0 : Fin 1))
  have e3 := broadcastInDim_apply ![0] Facts.bcast_S1_S4096_0 (mulf (broadcastInDim S1 ![] Facts.bcast_S_S1 M) T) (ValueIdx.ix1 R) (ValueIdx.ix1 (0 : Fin 1))
    (fun a => by match a with | ⟨0, _⟩ => rfl)
  have e4 : mulf (broadcastInDim S1 ![] Facts.bcast_S_S1 M) T (ValueIdx.ix1 (0 : Fin 1)) = (M ValueIdx.ix0 : EReal) * (T (ValueIdx.ix1 (0 : Fin 1)) : EReal) :=
    congrArg (fun a : EReal => a * (T (ValueIdx.ix1 (0 : Fin 1)) : EReal)) e2
  have e5 : (mulf A (broadcastInDim S4096 ![0] Facts.bcast_S1_S4096_0 (mulf (broadcastInDim S1 ![] Facts.bcast_S_S1 M) T)) (ValueIdx.ix1 R) : EReal)
      = (A (ValueIdx.ix1 R) : EReal) * ((M ValueIdx.ix0 : EReal) * (T (ValueIdx.ix1 (0 : Fin 1)) : EReal)) :=
    congrArg (fun a : EReal => (A (ValueIdx.ix1 R) : EReal) * a) (e3.trans e4)
  exact le_trans (le_of_eq e5.symm) (h2.trans (le_of_eq (e1.trans ofBits_bound)))

/-- The row sums of absolute values. -/
theorem row_sum (R : Fin 4096) :
    (Host.reduceAdd (Host.absf x) (constant S_ .f32 0x00000000#32 : FVec Ideal S_ .f32) Facts.reducesTo_S4096x128_S4096_d1 Facts.h_S_ (ValueIdx.ix1 R) : EReal)
      = ∑ k : Fin 128, ((x (ValueIdx.ix2 R k) : EReal).abs : EReal) := by
  refine (Ideal.hostReduceAdd_r2_a1 Facts.reducesTo_S4096x128_S4096_d1 _ _ _).trans ?_
  refine (congrArg (· + _) Ideal.ofBits_zero_f32).trans ((zero_add _).trans (Finset.sum_congr rfl fun k _ => ?_))
  exact max_neg_abs _

/-- The precondition at a row. -/
theorem bound_row (h : fn (F := Ideal) x w sx sw = fun _ => 1#1) (R : Fin 4096) :
    (∑ k : Fin 128, ((x (ValueIdx.ix2 R k) : EReal).abs : EReal)) * (wmax w * ((((sx (ValueIdx.ix1 (0 : Fin 1)) : EReal) * (sw (ValueIdx.ix1 (0 : Fin 1)) : EReal)).abs : ℝ≥0∞) : EReal)) ≤ ((15 / 8 : ℝ) : EReal) := by
  have h0 := congrFun h ValueIdx.ix0
  unfold fn at h0
  beta_reduce at h0
  haveI : Subsingleton S_.Idx := ⟨fun a b => funext fun i => i.elim0⟩
  have h1 := Host.reduce_andi_all _ _ _ _ _ h0 (ValueIdx.ix1 R)
  have h2 := row_core _ _ _ R h1
  rw [row_sum x R] at h2
  have e : (Host.absf (mulf sx sw) (ValueIdx.ix1 (0 : Fin 1)) : EReal) = ((((sx (ValueIdx.ix1 (0 : Fin 1)) : EReal) * (sw (ValueIdx.ix1 (0 : Fin 1)) : EReal)).abs : ℝ≥0∞) : EReal) :=
    max_neg_abs ((sx (ValueIdx.ix1 (0 : Fin 1)) : EReal) * (sw (ValueIdx.ix1 (0 : Fin 1)) : EReal))
  rw [e] at h2
  exact h2

/-- So the contribution of one device's columns to a scaled entry is at most sixty over thirty-two. -/
theorem bound_part (h : fn (F := Ideal) x w sx sw = fun _ => 1#1) (R : Fin 4096) (q : Fin 128 → S4096x2048.Idx) :
    (∑ k : Fin 128, (x (ValueIdx.ix2 R k) : EReal).abs * (w (q k) : EReal).abs) * ((sx (ValueIdx.ix1 (0 : Fin 1)) : EReal) * (sw (ValueIdx.ix1 (0 : Fin 1)) : EReal)).abs
      ≤ ENNReal.ofReal (15 / 8) := by
  have hb := bound_row x w sx sw h R
  generalize ((sx (ValueIdx.ix1 (0 : Fin 1)) : EReal) * (sw (ValueIdx.ix1 (0 : Fin 1)) : EReal)).abs = s at hb ⊢
  have hM : (0 : EReal) ≤ wmax w := le_trans (EReal.coe_ennreal_nonneg _) (le_wmax w (q 0))
  have hM' : ((wmax w).toENNReal : EReal) = wmax w := EReal.coe_toENNReal hM
  have hw : ∀ i, (w i : EReal).abs ≤ (wmax w).toENNReal := fun i => by
    have := le_wmax w i
    rw [← hM'] at this
    exact EReal.coe_ennreal_le_coe_ennreal_iff.mp this
  rw [← hM', coe_sum, ← EReal.coe_ennreal_mul, ← EReal.coe_ennreal_mul] at hb
  have hb' : (∑ k : Fin 128, (x (ValueIdx.ix2 R k) : EReal).abs) * ((wmax w).toENNReal * s) ≤ ENNReal.ofReal (15 / 8) := by
    refine EReal.coe_ennreal_le_coe_ennreal_iff.mp (hb.trans (le_of_eq ?_))
    rw [EReal.coe_ennreal_ofReal, max_eq_left (by norm_num)]
  refine le_trans ?_ hb'
  rw [← mul_assoc, Finset.sum_mul _ _ (wmax w).toENNReal]
  exact mul_le_mul_left (Finset.sum_le_sum fun k _ => mul_le_mul_right (hw _) _) _

end Cert.AllToAll

end
-- ==== Proof.Whole.lean ====
/-
# The whole arrays

The devices' blocks put back together: entry `(128 c + r, n)` of the reference is entry `(r, n)` of device `c`'s block.
-/
module

public import proofs.«01_k».proof.Proof.Value
public import proofs.«01_k».proof.Proof.Bound
public import proofs.«01_k».proof.Proof.Gen.ReferenceIdeal
public import proofs.«01_k».proof.Proof.Gen.UnclippedIdeal
public import Idealize.ShloMosaic.Lib.StackMember
public import Idealize.ShloMosaic.Lib.IdealHost
public import Idealize.ShloMosaic.Lib.Pipeline.Value

@[expose] public section

set_option maxRecDepth 16384

noncomputable section

namespace Cert.AllToAll

open Idealize.ShloMosaic
open Idealize.ShloMosaic.ValueIdx (broadcastInDim_scalar_apply)
open scoped ENNReal

abbrev SX : Shape := ⟨2, ![4096, 4096]⟩
abbrev SW : Shape := ⟨2, ![4096, 2048]⟩
abbrev SO : Shape := ⟨1, ![1]⟩

/-- An entry of the whole product. -/
def prod (X : SX.Idx → EReal) (W : SW.Idx → EReal) (R : Fin 4096) (n : Fin 2048) : EReal :=
  ∑ K : Fin 4096, X (ValueIdx.ix2 R K) * W (ValueIdx.ix2 K n)

/-! ## The references' entries -/

section Reference

variable (X : FVec Ideal SX .f32) (W : FVec Ideal SW .f32) (sx sw : FVec Ideal SO .f32) (R : Fin 4096) (n : Fin 2048)

/-- The scale spread over the array reads the product of the two scales everywhere. -/
theorem scale_apply (h1 : SO.BroadcastsInDim ⟨2, ![1, 1]⟩ ![1]) (h2 : (⟨2, ![1, 1]⟩ : Shape).BroadcastsInDim SW ![0, 1]) (s : FVec Ideal SO .f32) :
    broadcastInDim SW ![0, 1] h2 (broadcastInDim ⟨2, ![1, 1]⟩ ![1] h1 s) (ValueIdx.ix2 R n) = s (ValueIdx.ix1 (0 : Fin 1)) := by
  refine (broadcastInDim_apply ![0, 1] h2 _ _ (ValueIdx.ix2 (0 : Fin 1) (0 : Fin 1)) (fun a => ?_)).trans
    (broadcastInDim_apply ![1] h1 _ _ (ValueIdx.ix1 (0 : Fin 1)) (fun a => ?_))
  · match a with
    | ⟨0, _⟩ => rfl
    | ⟨1, _⟩ => rfl
  · match a with
    | ⟨0, _⟩ => rfl

theorem scaled_apply (D : FVec Ideal SW .f32) (h1 : SO.BroadcastsInDim ⟨2, ![1, 1]⟩ ![1]) (h2 : (⟨2, ![1, 1]⟩ : Shape).BroadcastsInDim SW ![0, 1]) :
    (mulf D (broadcastInDim SW ![0, 1] h2 (broadcastInDim ⟨2, ![1, 1]⟩ ![1] h1 (mulf sx sw))) (ValueIdx.ix2 R n) : EReal)
      = (D (ValueIdx.ix2 R n) : EReal) * ((sx (ValueIdx.ix1 (0 : Fin 1)) : EReal) * (sw (ValueIdx.ix1 (0 : Fin 1)) : EReal)) :=
  congrArg (fun a : EReal => (D (ValueIdx.ix2 R n) : EReal) * a) (scale_apply R n h1 h2 (mulf sx sw))

/-- The last operations of the reference without the clip. -/
theorem tail_apply (Y : FVec Ideal SW .f32) (h : (⟨0, ![]⟩ : Shape).BroadcastsInDim SW ![]) (i : SW.Idx) :
    (Host.divf Y (addf (broadcastInDim SW ![] h (constant ⟨0, ![]⟩ .f32 0x3F800000#32 : FVec Ideal ⟨0, ![]⟩ .f32)) (Host.exp (Host.negf Y))) i : EReal)
      = Ideal.div (Y i) (1 + Ideal.exp (-(Y i : EReal))) := by
  have e := broadcastInDim_scalar_apply h (constant ⟨0, ![]⟩ .f32 0x3F800000#32 : FVec Ideal ⟨0, ![]⟩ .f32) i
  exact congrArg (fun a : EReal => Ideal.div (Y i) (a + Ideal.exp (-(Y i : EReal)))) (e.trans Ideal.ofBits_one_f32)

/-- And with it. -/
theorem tail_clip_apply (Y : FVec Ideal SW .f32) (h : (⟨0, ![]⟩ : Shape).BroadcastsInDim SW ![]) (i : SW.Idx) :
    (Host.divf Y (addf (broadcastInDim SW ![] h (constant ⟨0, ![]⟩ .f32 0x3F800000#32 : FVec Ideal ⟨0, ![]⟩ .f32))
      (Host.exp (Host.negf (minimumf (broadcastInDim SW ![] h (id (constant ⟨0, ![]⟩ .f32 0x42700000#32 : FVec Ideal ⟨0, ![]⟩ .f32)))
        (maximumf (broadcastInDim SW ![] h (id (constant ⟨0, ![]⟩ .f32 0xC2700000#32 : FVec Ideal ⟨0, ![]⟩ .f32))) Y))))) i : EReal)
      = Ideal.div (Y i) (1 + Ideal.exp (-(min ((60 : ℝ) : EReal) (max ((-60 : ℝ) : EReal) (Y i : EReal))))) := by
  have e := (broadcastInDim_scalar_apply h (constant ⟨0, ![]⟩ .f32 0x3F800000#32 : FVec Ideal ⟨0, ![]⟩ .f32) i).trans Ideal.ofBits_one_f32
  have eh := (broadcastInDim_scalar_apply h (constant ⟨0, ![]⟩ .f32 0x42700000#32 : FVec Ideal ⟨0, ![]⟩ .f32) i).trans ofBits_60
  have el := (broadcastInDim_scalar_apply h (constant ⟨0, ![]⟩ .f32 0xC2700000#32 : FVec Ideal ⟨0, ![]⟩ .f32) i).trans ofBits_neg60
  refine congrArg₂ (fun a b : EReal => Ideal.div (Y i) (a + Ideal.exp (-b))) e ?_
  exact congrArg₂ (fun a b : EReal => min a (max b (Y i : EReal))) eh el

end Reference

/-! ## The blocks -/

section Blocks

open Cert.KernelIdeal (nD τ sig)

variable (m : (ℓ : Loc nD τ sig) → Buf (Elt Ideal) ℓ) (ρ : Dev nD → PrngReg) (c : Dev nD) (r : Fin 128) (n : Fin 2048)
variable (X : SX.Idx → EReal) (W : SW.Idx → EReal) (s : EReal)

/-- Row `r` of block `c`. -/
abbrev row : Fin 4096 := ⟨128 * c.val + r.val, row_lt c _ r.isLt⟩

theorem dotv_whole (hx : ∀ d, xA m d = Layout.block ⟨2, ![4096, 128]⟩ ⟨2, ![4096, 4096]⟩ 1 32 d X) (hw : ∀ d, wA m d = W) :
    dotv m c r n = prod X W (row c r) n := by
  have key : ∀ K : Fin 4096, (fun K : ℕ => if h : K < 4096 then X (ValueIdx.ix2 (row c r) ⟨K, h⟩) * W (ValueIdx.ix2 ⟨K, h⟩ n) else 0) K.val
      = X (ValueIdx.ix2 (row c r) K) * W (ValueIdx.ix2 K n) := fun K => dif_pos K.isLt
  refine Eq.trans ?_ ((sum_split 32 128 (fun K : ℕ => if h : K < 4096 then X (ValueIdx.ix2 (row c r) ⟨K, h⟩) * W (ValueIdx.ix2 ⟨K, h⟩ n) else 0)).trans (Finset.sum_congr rfl fun K _ => key K))
  refine Finset.sum_congr rfl fun d _ => Finset.sum_congr rfl fun k _ => ?_
  have hK : 128 * d.val + k.val < 4096 := row_lt d _ k.isLt
  refine Eq.trans ?_ (key ⟨128 * d.val + k.val, hK⟩).symm
  rw [hx d, hw c, Layout.block_apply]
  refine congrArg (fun i => X i * W (ValueIdx.ix2 ⟨128 * d.val + k.val, hK⟩ n)) ?_
  funext a
  match a with
  | ⟨0, _⟩ => exact Fin.ext rfl
  | ⟨1, _⟩ => exact Fin.ext (show d.val * 128 + k.val = 128 * d.val + k.val by omega)

/-- The reference's scaled product at a block's entry is the kernel's. -/
theorem scaled_whole (W : FVec Ideal SW .f32) (X : FVec Ideal SX .f32) (sx sw : FVec Ideal SO .f32)
    (h1 : SO.BroadcastsInDim ⟨2, ![1, 1]⟩ ![1]) (h2 : (⟨2, ![1, 1]⟩ : Shape).BroadcastsInDim SW ![0, 1])
    (hx : ∀ d, xA m d = Layout.block ⟨2, ![4096, 128]⟩ ⟨2, ![4096, 4096]⟩ 1 32 d X) (hw : ∀ d, wA m d = W)
    (hs : ∀ d, sA m d = (sx (ValueIdx.ix1 (0 : Fin 1)) : EReal) * (sw (ValueIdx.ix1 (0 : Fin 1)) : EReal)) :
    (mulf (Host.dotGeneral (DotDims.plain 4096 4096 2048) none X W) (broadcastInDim SW ![0, 1] h2 (broadcastInDim ⟨2, ![1, 1]⟩ ![1] h1 (mulf sx sw))) (ValueIdx.ix2 (row c r) n) : EReal)
      = dotv m c r n * sA m c :=
  (scaled_apply sx sw (row c r) n _ h1 h2).trans (congrArg₂ (fun a b : EReal => a * b)
    ((StackMember.dotGeneral_plain_apply none X W (row c r) n).trans (dotv_whole m c r n X W hx hw).symm) (hs c).symm)

/-- An array whose rows are the blocks' rows is cut into the blocks. -/
theorem out_block (V : SW.Idx → EReal) (h : ∀ r n, (outv m ρ c (ValueIdx.ix2 r n) : EReal) = V (ValueIdx.ix2 (row c r) n)) :
    outv m ρ c = Layout.block ⟨2, ![128, 2048]⟩ ⟨2, ![4096, 2048]⟩ 0 32 c V := by
  funext i
  rw [Layout.block_apply]
  have hi := ValueIdx.eq_ix2 i
  refine Eq.trans (congrArg (outv m ρ c) hi) ((h _ _).trans (congrArg V ?_))
  funext a
  match a with
  | ⟨0, _⟩ => exact Fin.ext (show 128 * c.val + (i 0).val = c.val * 128 + (i 0).val by omega)
  | ⟨1, _⟩ => exact Fin.ext rfl

/-- Under the precondition a scaled entry is at most sixty in absolute value. -/
theorem scaled_le (hp : ∀ d : Dev nD, Cert.Pre_bounded_KernelIdeal.fn (F := Ideal) (m ((d.tc : Thread nD τ).loc Cert.KernelIdeal.main_arg0)) (m ((d.tc : Thread nD τ).loc Cert.KernelIdeal.main_arg1))
      (m ((d.tc : Thread nD τ).loc Cert.KernelIdeal.main_arg2)) (m ((d.tc : Thread nD τ).loc Cert.KernelIdeal.main_arg3)) = fun _ => 1#1)
    (hw : ∀ d, wA m d = W) (hs : ∀ d, sA m d = s) : (dotv m c r n * s).abs ≤ 60 := by
  have hd : ∀ d : Dev nD, (part m c r n d).abs * s.abs ≤ ENNReal.ofReal (15 / 8) := fun d => by
    have hb := bound_part _ _ _ _ (hp d) (row c r) (fun k => ValueIdx.ix2 ⟨128 * d.val + k.val, row_lt d _ k.isLt⟩ n)
    refine le_trans ?_ hb
    have hsd : (sA m d).abs = s.abs := by rw [hs d]
    refine mul_le_mul' (le_trans (abs_sum_le _ _) (le_of_eq (Finset.sum_congr rfl fun k _ => ?_))) (le_of_eq hsd.symm)
    rw [EReal.abs_mul, hw c, ← hw d]
    rfl
  rw [EReal.abs_mul]
  refine le_trans (mul_le_mul_left (abs_sum_le _ _) _) ?_
  rw [Finset.sum_mul]
  refine le_trans (Finset.sum_le_sum fun d _ => hd d) (le_of_eq ?_)
  rw [Finset.sum_const, Finset.card_univ, Fintype.card_fin, nsmul_eq_mul]
  rw [show ((32 : ℕ) : ℝ≥0∞) = ENNReal.ofReal 32 by norm_num, ← ENNReal.ofReal_mul (by norm_num)]
  norm_num

end Blocks

end Cert.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_bounded_KernelIdeal
public import proofs.«01_k».proof.Proof.Gen.Pre_bounded_ReferenceIdeal
public import proofs.«01_k».proof.Proof.Launch
public import proofs.«01_k».proof.Proof.Same
public import proofs.«01_k».proof.Proof.Whole
public import Idealize.ShloMosaic.Adequacy
public import Idealize.ShloMosaic.Init

@[expose] public section

set_option maxRecDepth 16384

noncomputable section

namespace Cert.Proof

open Idealize.ShloMosaic Idealize.SL.Sem
open Cert.AllToAll

/-! ## The frames -/

/-- The program's frame at the bit-exact values: the one run, its values left out. -/
theorem frame_kernel : Cert.quiescent_Kernel := by
  intro m ρ _
  rw [Cert.AllToAll.defs_eq, Cert.AllToAll.main_eq]
  exact (θ_run Cert.KernelIdeal.defs _ _).mono
    (fun _ h => ⟨fun c => ⟨((h.1 c).1 (0 : Fin 4)).trans (finalA_x m ρ c), (h.1 c).2, ((h.1 c).1 (1 : Fin 4)).trans (finalA_sx m ρ c),
      ((h.1 c).1 (2 : Fin 4)).trans (finalA_sw m ρ c)⟩, h.2⟩) (run_main (F := Bits) m ρ)

/-- And at the ideal values. -/
theorem frame_ideal : Cert.quiescent_KernelIdeal := fun m ρ _ =>
  (θ_run Cert.KernelIdeal.defs _ _).mono
    (fun _ h => ⟨fun c => ⟨((h.1 c).1 (0 : Fin 4)).trans (finalA_x m ρ c), (h.1 c).2, ((h.1 c).1 (1 : Fin 4)).trans (finalA_sx m ρ c),
      ((h.1 c).1 (2 : Fin 4)).trans (finalA_sw m ρ c)⟩, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-! ## The values -/

/-- The kernel's run, given the array its blocks make up. -/
theorem run_blocks (m : (ℓ : Loc Cert.KernelIdeal.nD Cert.KernelIdeal.τ Cert.KernelIdeal.sig) → Buf (Elt Ideal) ℓ) (g : Dev Cert.KernelIdeal.nD → PrngReg)
    (V : SW.Idx → EReal) (h : ∀ c r n, (outv m g c (ValueIdx.ix2 r n) : EReal) = V (ValueIdx.ix2 (row c r) n)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Layout.block ⟨2, ![128, 2048]⟩ ⟨2, ![4096, 2048]⟩ 0 32 c V
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ q c => ⟨((q.1 c).1 (3 : Fin 4)).trans ((finalA_out m g c).trans (out_block m g c V (h c))),
      ((q.1 c).1 (0 : Fin 4)).trans (finalA_x m g c), (q.1 c).2, ((q.1 c).1 (1 : Fin 4)).trans (finalA_sx m g c), ((q.1 c).1 (2 : Fin 4)).trans (finalA_sw m g c)⟩)
    (run_main (F := Ideal) m g)

theorem algebraic_reference : Cert.algebraic_KernelIdeal_ReferenceIdeal_pre_bounded_KernelIdeal := by
  intro m g m' g' hp hm
  have hx : ∀ d, xA m d = Layout.block ⟨2, ![4096, 128]⟩ ⟨2, ![4096, 4096]⟩ 1 32 d (show SX.Idx → EReal from m' (((0 : Dev Cert.ReferenceIdeal.nD).tc : Thread Cert.ReferenceIdeal.nD Cert.ReferenceIdeal.τ).loc Cert.ReferenceIdeal.main_arg0)) := fun d => (hm d).1
  have hw : ∀ d, wA m d = (show SW.Idx → EReal from m' (((0 : Dev Cert.ReferenceIdeal.nD).tc : Thread Cert.ReferenceIdeal.nD Cert.ReferenceIdeal.τ).loc Cert.ReferenceIdeal.main_arg1)) := fun d => (hm d).2.1
  have hs : ∀ d, sA m d = (show SO.Idx → EReal from m' (((0 : Dev Cert.ReferenceIdeal.nD).tc : Thread Cert.ReferenceIdeal.nD Cert.ReferenceIdeal.τ).loc Cert.ReferenceIdeal.main_arg2)) (ValueIdx.ix1 (0 : Fin 1)) * (show SO.Idx → EReal from m' (((0 : Dev Cert.ReferenceIdeal.nD).tc : Thread Cert.ReferenceIdeal.nD Cert.ReferenceIdeal.τ).loc Cert.ReferenceIdeal.main_arg3)) (ValueIdx.ix1 (0 : Fin 1)) := fun d =>
    congrArg₂ (fun a b : SO.Idx → EReal => a (ValueIdx.ix1 (0 : Fin 1)) * b (ValueIdx.ix1 (0 : Fin 1))) (hm d).2.2.1 (hm d).2.2.2
  have hrun := Cert.ReferenceIdeal.Value.run (F := Ideal) m' g'
  refine ⟨_, run_blocks m g _ ?_, (θ_run Cert.ReferenceIdeal.defs _ _).mono (fun r q => q 0) hrun⟩
  intro c r n
  have hy := scaled_whole m c r n (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) Cert.ReferenceIdeal.Gen.facts.bcast_S1_S1x1_1 Cert.ReferenceIdeal.Gen.facts.bcast_S1x1_S4096x2048_0_1 hx hw hs
  refine (outv_apply m g c r n).trans ((mul_logistic _).trans (Eq.symm ((tail_clip_apply _ Cert.ReferenceIdeal.Gen.facts.bcast_S_S4096x2048 _).trans ?_)))
  refine (congrArg (fun y : EReal => Ideal.div y (1 + Ideal.exp (-(min ((60 : ℝ) : EReal) (max ((-60 : ℝ) : EReal) y))))) hy).trans ?_
  exact congrArg (fun b : EReal => Ideal.div (dotv m c r n * sA m c) (1 + Ideal.exp (-b)))
    (clip_eq _ (scaled_le m c r n _ (sA m c) hp hw fun d => (hs d).trans (hs c).symm))

theorem algebraic_unclipped : Cert.algebraic_KernelIdeal_UnclippedIdeal := by
  intro m g m' g' hp hm
  have hx : ∀ d, xA m d = Layout.block ⟨2, ![4096, 128]⟩ ⟨2, ![4096, 4096]⟩ 1 32 d (show SX.Idx → EReal from m' (((0 : Dev Cert.UnclippedIdeal.nD).tc : Thread Cert.UnclippedIdeal.nD Cert.UnclippedIdeal.τ).loc Cert.UnclippedIdeal.main_arg0)) := fun d => (hm d).1
  have hw : ∀ d, wA m d = (show SW.Idx → EReal from m' (((0 : Dev Cert.UnclippedIdeal.nD).tc : Thread Cert.UnclippedIdeal.nD Cert.UnclippedIdeal.τ).loc Cert.UnclippedIdeal.main_arg1)) := fun d => (hm d).2.1
  have hs : ∀ d, sA m d = (show SO.Idx → EReal from m' (((0 : Dev Cert.UnclippedIdeal.nD).tc : Thread Cert.UnclippedIdeal.nD Cert.UnclippedIdeal.τ).loc Cert.UnclippedIdeal.main_arg2)) (ValueIdx.ix1 (0 : Fin 1)) * (show SO.Idx → EReal from m' (((0 : Dev Cert.UnclippedIdeal.nD).tc : Thread Cert.UnclippedIdeal.nD Cert.UnclippedIdeal.τ).loc Cert.UnclippedIdeal.main_arg3)) (ValueIdx.ix1 (0 : Fin 1)) := fun d =>
    congrArg₂ (fun a b : SO.Idx → EReal => a (ValueIdx.ix1 (0 : Fin 1)) * b (ValueIdx.ix1 (0 : Fin 1))) (hm d).2.2.1 (hm d).2.2.2
  have hrun := Cert.UnclippedIdeal.Value.run (F := Ideal) m' g'
  refine ⟨_, run_blocks m g _ ?_, (θ_run Cert.UnclippedIdeal.defs _ _).mono (fun r q => q 0) hrun⟩
  intro c r n
  have hy := scaled_whole m c r n (m' (((0 : Dev Cert.UnclippedIdeal.nD).tc : Thread Cert.UnclippedIdeal.nD Cert.UnclippedIdeal.τ).loc Cert.UnclippedIdeal.main_arg1)) (m' (((0 : Dev Cert.UnclippedIdeal.nD).tc : Thread Cert.UnclippedIdeal.nD Cert.UnclippedIdeal.τ).loc Cert.UnclippedIdeal.main_arg0)) (m' (((0 : Dev Cert.UnclippedIdeal.nD).tc : Thread Cert.UnclippedIdeal.nD Cert.UnclippedIdeal.τ).loc Cert.UnclippedIdeal.main_arg2)) (m' (((0 : Dev Cert.UnclippedIdeal.nD).tc : Thread Cert.UnclippedIdeal.nD Cert.UnclippedIdeal.τ).loc Cert.UnclippedIdeal.main_arg3)) Cert.UnclippedIdeal.Gen.facts.bcast_S1_S1x1_1 Cert.UnclippedIdeal.Gen.facts.bcast_S1x1_S4096x2048_0_1 hx hw hs
  refine (outv_apply m g c r n).trans ((mul_logistic _).trans (Eq.symm ((tail_apply _ Cert.UnclippedIdeal.Gen.facts.bcast_S_S4096x2048 _).trans ?_)))
  exact congrArg (fun y : EReal => Ideal.div y (1 + Ideal.exp (-y))) hy

theorem claim : Cert.Claim :=
  ⟨Cert.Kernel.Gen.facts, Cert.KernelIdeal.Gen.facts, Cert.ReferenceIdeal.Gen.facts, Cert.UnclippedIdeal.Gen.facts,
    Cert.Pre_bounded_KernelIdeal.Gen.facts, Cert.Pre_bounded_ReferenceIdeal.Gen.facts,
    frame_kernel, frame_ideal, fun m ρ _ => frame_ideal m ρ trivial, frame_reference, fun m ρ _ => frame_reference m ρ trivial, frame_unclipped,
    trivial, algebraic_reference, algebraic_unclipped⟩

end Cert.Proof

end
